-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x16x2048x64 : Shape := ⟨4, ![1, 16, 2048, 64]⟩
abbrev S1x16x2048 : Shape := ⟨3, ![1, 16, 2048]⟩
abbrev S16x64x64 : Shape := ⟨3, ![16, 64, 64]⟩
abbrev S16x1x64 : Shape := ⟨3, ![16, 1, 64]⟩
abbrev S_ : Shape := ⟨0, ![]⟩

class Facts : Prop where
  bcast_S_S1x16x2048x64 : S_.BroadcastsInDim S1x16x2048x64 (![] : Fin 0 → Fin S1x16x2048x64.rank)
  bcast_S_S1x16x2048 : S_.BroadcastsInDim S1x16x2048 (![] : Fin 0 → Fin S1x16x2048.rank)
  bcast_S_S16x64x64 : S_.BroadcastsInDim S16x64x64 (![] : Fin 0 → Fin S16x64x64.rank)
  bcast_S_S16x1x64 : S_.BroadcastsInDim S16x1x64 (![] : Fin 0 → Fin S16x1x64.rank)

variable [Facts]

def fn_part1 {F : FTy → Type} [FloatOps F] (main_arg4 : FVec F S1x16x2048 .f32) (main_arg5 : FVec F S16x64x64 .f32) (main_arg6 : FVec F S16x1x64 .f32) (main_arg7 : FVec F S16x1x64 .f32) (main_v2 : IVec S1x16x2048x64 1) (main_v5 : IVec S1x16x2048x64 1) (main_v8 : IVec S1x16x2048x64 1) (main_v13 : IVec S1x16x2048 1) (main_v15 : IVec S1x16x2048 1) (main_v16 : FVec F S1x16x2048 .f32) : IVec S1x16x2048x64 1 × IVec S1x16x2048x64 1 × IVec S1x16x2048x64 1 × IVec S1x16x2048 1 × IVec S1x16x2048 1 × IVec S16x64x64 1 × IVec S16x1x64 1 × IVec S16x1x64 1 :=
  let main_v17 : IVec S1x16x2048 1 := cmpf .olt main_arg4 main_v16
  let main_v18 : IVec S1x16x2048 1 := andi main_v15 main_v17
  let main_v19 : FVec F S16x64x64 .f32 := Host.absf main_arg5
  let main_cst_6 : FVec F S_ .f32 := constant S_ .f32 0x7F800000#32
  let main_v20 : FVec F S16x64x64 .f32 := broadcastInDim S16x64x64 ![] bcast_S_S16x64x64 main_cst_6
  let main_v21 : IVec S16x64x64 1 := cmpf .olt main_v19 main_v20
  let main_cst_7 : FVec F S_ .f32 := constant S_ .f32 0x3F800000#32
  let main_v22 : FVec F S16x1x64 .f32 := broadcastInDim S16x1x64 ![] bcast_S_S16x1x64 main_cst_7
  let main_v23 : IVec S16x1x64 1 := cmpf .oeq main_arg6 main_v22
  let main_cst_8 : FVec F S_ .f32 := constant S_ .f32 0x00000000#32
  let main_v24 : FVec F S16x1x64 .f32 := broadcastInDim S16x1x64 ![] bcast_S_S16x1x64 main_cst_8
  let main_v25 : IVec S16x1x64 1 := cmpf .oeq main_arg7 main_v24
  (main_v2, main_v5, main_v8, main_v13, main_v18, main_v21, main_v23, main_v25)

def fn {F : FTy → Type} [FloatOps F] (main_arg0 : FVec F S1x16x2048x64 .f32) (main_arg1 : FVec F S1x16x2048x64 .f32) (main_arg2 : FVec F S1x16x2048x64 .f32) (main_arg3 : FVec F S1x16x2048 .f32) (main_arg4 : FVec F S1x16x2048 .f32) (main_arg5 : FVec F S16x64x64 .f32) (main_arg6 : FVec F S16x1x64 .f32) (main_arg7 : FVec F S16x1x64 .f32) : IVec S1x16x2048x64 1 × IVec S1x16x2048x64 1 × IVec S1x16x2048x64 1 × IVec S1x16x2048 1 × IVec S1x16x2048 1 × IVec S16x64x64 1 × IVec S16x1x64 1 × IVec S16x1x64 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_v3 : FVec F S1x16x2048x64 .f32 := Host.absf main_arg1
  let main_cst_0 : FVec F S_ .f32 := constant S_ .f32 0x7F800000#32
  let main_v4 : FVec F S1x16x2048x64 .f32 := broadcastInDim S1x16x2048x64 ![] bcast_S_S1x16x2048x64 main_cst_0
  let main_v5 : IVec S1x16x2048x64 1 := cmpf .olt main_v3 main_v4
  let main_v6 : FVec F S1x16x2048x64 .f32 := Host.absf main_arg2
  let main_cst_1 : FVec F S_ .f32 := constant S_ .f32 0x7F800000#32
  let main_v7 : FVec F S1x16x2048x64 .f32 := broadcastInDim S1x16x2048x64 ![] bcast_S_S1x16x2048x64 main_cst_1
  let main_v8 : IVec S1x16x2048x64 1 := cmpf .olt main_v6 main_v7
  let main_cst_2 : FVec F S_ .f32 := constant S_ .f32 0x00800000#32
  let main_v9 : FVec F S1x16x2048 .f32 := broadcastInDim S1x16x2048 ![] bcast_S_S1x16x2048 main_cst_2
  let main_v10 : IVec S1x16x2048 1 := cmpf .oge main_arg3 main_v9
  let main_cst_3 : FVec F S_ .f32 := constant S_ .f32 0x7F800000#32
  let main_v11 : FVec F S1x16x2048 .f32 := broadcastInDim S1x16x2048 ![] bcast_S_S1x16x2048 main_cst_3
  let main_v12 : IVec S1x16x2048 1 := cmpf .olt main_arg3 main_v11
  let main_v13 : IVec S1x16x2048 1 := andi main_v10 main_v12
  let main_cst_4 : FVec F S_ .f32 := constant S_ .f32 0x00800000#32
  let main_v14 : FVec F S1x16x2048 .f32 := broadcastInDim S1x16x2048 ![] bcast_S_S1x16x2048 main_cst_4
  let main_v15 : IVec S1x16x2048 1 := cmpf .oge main_arg4 main_v14
  let main_cst_5 : FVec F S_ .f32 := constant S_ .f32 0x7F800000#32
  let main_v16 : FVec F S1x16x2048 .f32 := broadcastInDim S1x16x2048 ![] bcast_S_S1x16x2048 main_cst_5
  fn_part1 (F := F) main_arg4 main_arg5 main_arg6 main_arg7 main_v2 main_v5 main_v8 main_v13 main_v15 main_v16
-- ==== Kernel.lean ====
abbrev S1x16x2048x64 : Shape := ⟨4, ![1, 16, 2048, 64]⟩
abbrev S1x16x2048 : Shape := ⟨3, ![1, 16, 2048]⟩
abbrev S16x64x64 : Shape := ⟨3, ![16, 64, 64]⟩
abbrev S16x1x64 : Shape := ⟨3, ![16, 1, 64]⟩
abbrev S1x16x64x2048 : Shape := ⟨4, ![1, 16, 64, 2048]⟩
abbrev S1x1024x2048 : Shape := ⟨3, ![1, 1024, 2048]⟩
abbrev S_ : Shape := ⟨0, ![]⟩
abbrev S16x16x1x128 : Shape := ⟨4, ![16, 16, 1, 128]⟩
abbrev S16x2048 : Shape := ⟨2, ![16, 2048]⟩
abbrev S2048x16 : Shape := ⟨2, ![2048, 16]⟩
abbrev S16x128x16 : Shape := ⟨3, ![16, 128, 16]⟩
abbrev S1x16x64x64 : Shape := ⟨4, ![1, 16, 64, 64]⟩
abbrev S1x8x2x64x64 : Shape := ⟨5, ![1, 8, 2, 64, 64]⟩
abbrev S2x2 : Shape := ⟨2, ![2, 2]⟩
abbrev S1x1x2x2x1x1 : Shape := ⟨6, ![1, 1, 2, 2, 1, 1]⟩
abbrev S1x8x2x1x64x64 : Shape := ⟨6, ![1, 8, 2, 1, 64, 64]⟩
abbrev S1x8x2x2x64x64 : Shape := ⟨6, ![1, 8, 2, 2, 64, 64]⟩
abbrev S1x8x2x64x2x64 : Shape := ⟨6, ![1, 8, 2, 64, 2, 64]⟩
abbrev S1x8x128x128 : Shape := ⟨4, ![1, 8, 128, 128]⟩
abbrev S128x128 : Shape := ⟨2, ![128, 128]⟩
abbrev S16x1x1x128 : Shape := ⟨4, ![16, 1, 1, 128]⟩
abbrev S1x128x16 : Shape := ⟨3, ![1, 128, 16]⟩
abbrev S1x1024x128 : Shape := ⟨3, ![1, 1024, 128]⟩
abbrev S8x128x128 : Shape := ⟨3, ![8, 128, 128]⟩
abbrev S1024x128 : Shape := ⟨2, ![1024, 128]⟩
abbrev S16x1024 : Shape := ⟨2, ![16, 1024]⟩
abbrev S1x1x128x128 : Shape := ⟨4, ![1, 1, 128, 128]⟩
abbrev S16x128 : Shape := ⟨2, ![16, 128]⟩
abbrev S128x16 : Shape := ⟨2, ![128, 16]⟩
abbrev S16x1 : Shape := ⟨2, ![16, 1]⟩
abbrev S1x128x128 : Shape := ⟨3, ![1, 128, 128]⟩
abbrev S64x128 : Shape := ⟨2, ![64, 128]⟩
abbrev S1x128 : Shape := ⟨2, ![1, 128]⟩
abbrev S128x1 : Shape := ⟨2, ![128, 1]⟩
abbrev S1x1024 : Shape := ⟨2, ![1, 1024]⟩

abbrev nBuf : Space → Nat
  | .hbm => 94
  | .vmem => 21
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048, .f32⟩
  | .hbm, ⟨4, _⟩ => ⟨S1x16x2048, .f32⟩
  | .hbm, ⟨5, _⟩ => ⟨S16x64x64, .f32⟩
  | .hbm, ⟨6, _⟩ => ⟨S16x1x64, .f32⟩
  | .hbm, ⟨7, _⟩ => ⟨S16x1x64, .f32⟩
  | .hbm, ⟨8, _⟩ => ⟨S1x16x64x2048, .f32⟩
  | .hbm, ⟨9, _⟩ => ⟨S1x1024x2048, .f32⟩
  | .hbm, ⟨10, _⟩ => ⟨S1x16x64x2048, .f32⟩
  | .hbm, ⟨11, _⟩ => ⟨S1x1024x2048, .f32⟩
  | .hbm, ⟨12, _⟩ => ⟨S1x16x64x2048, .f32⟩
  | .hbm, ⟨13, _⟩ => ⟨S1x1024x2048, .f32⟩
  | .hbm, ⟨14, _⟩ => ⟨S_, .f32⟩
  | .hbm, ⟨15, _⟩ => ⟨S1x16x2048, .f32⟩
  | .hbm, ⟨16, _⟩ => ⟨S1x16x2048, .f32⟩
  | .hbm, ⟨17, _⟩ => ⟨S16x16x1x128, .f32⟩
  | .hbm, ⟨18, _⟩ => ⟨S16x16x1x128, .f32⟩
  | .hbm, ⟨19, _⟩ => ⟨S16x2048, .f32⟩
  | .hbm, ⟨20, _⟩ => ⟨S2048x16, .f32⟩
  | .hbm, ⟨21, _⟩ => ⟨S16x128x16, .f32⟩
  | .hbm, ⟨22, _⟩ => ⟨S16x2048, .f32⟩
  | .hbm, ⟨23, _⟩ => ⟨S2048x16, .f32⟩
  | .hbm, ⟨24, _⟩ => ⟨S16x128x16, .f32⟩
  | .hbm, ⟨25, _⟩ => ⟨S1x16x64x64, .f32⟩
  | .hbm, ⟨26, _⟩ => ⟨S1x8x2x64x64, .f32⟩
  | .hbm, ⟨27, _⟩ => ⟨S1x8x2x64x64, .f32⟩
  | .hbm, ⟨28, _⟩ => ⟨S2x2, .i32⟩
  | .hbm, ⟨29, _⟩ => ⟨S2x2, .i32⟩
  | .hbm, ⟨30, _⟩ => ⟨S_, .i32⟩
  | .hbm, ⟨31, _⟩ => ⟨S2x2, .i32⟩
  | .hbm, ⟨32, _⟩ => ⟨S2x2, .i32⟩
  | .hbm, ⟨33, _⟩ => ⟨S2x2, .i1⟩
  | .hbm, ⟨34, _⟩ => ⟨S2x2, .f32⟩
  | .hbm, ⟨35, _⟩ => ⟨S1x1x2x2x1x1, .f32⟩
  | .hbm, ⟨36, _⟩ => ⟨S1x8x2x1x64x64, .f32⟩
  | .hbm, ⟨37, _⟩ => ⟨S1x8x2x2x64x64, .f32⟩
  | .hbm, ⟨38, _⟩ => ⟨S1x8x2x2x64x64, .f32⟩
  | .hbm, ⟨39, _⟩ => ⟨S1x8x2x2x64x64, .f32⟩
  | .hbm, ⟨40, _⟩ => ⟨S1x8x2x64x2x64, .f32⟩
  | .hbm, ⟨41, _⟩ => ⟨S1x8x128x128, .f32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S128x128, .f32⟩
  | .hbm, ⟨46, _⟩ => ⟨S128x128, .i1⟩
  | .hbm, ⟨47, _⟩ => ⟨S_, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128x128, .i32⟩
  | .hbm, ⟨54, _⟩ => ⟨S_, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i1⟩
  | .hbm, ⟨62, _⟩ => ⟨S128x128, .i32⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i1⟩
  | .hbm, ⟨67, _⟩ => ⟨S128x128, .i1⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S_, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i1⟩
  | .hbm, ⟨81, _⟩ => ⟨S128x128, .i32⟩
  | .hbm, ⟨82, _⟩ => ⟨S128x128, .i32⟩
  | .hbm, ⟨83, _⟩ => ⟨S_, .i32⟩
  | .hbm, ⟨84, _⟩ => ⟨S128x128, .i32⟩
  | .hbm, ⟨85, _⟩ => ⟨S128x128, .i1⟩
  | .hbm, ⟨86, _⟩ => ⟨S128x128, .i1⟩
  | .hbm, ⟨87, _⟩ => ⟨S_, .i32⟩
  | .hbm, ⟨88, _⟩ => ⟨S128x128, .i32⟩
  | .hbm, ⟨89, _⟩ => ⟨S128x128, .i32⟩
  | .hbm, ⟨90, _⟩ => ⟨S128x128, .i32⟩
  | .hbm, ⟨91, _⟩ => ⟨S128x128, .i1⟩
  | .hbm, ⟨92, _⟩ => ⟨S128x128, .f32⟩
  | .hbm, ⟨93, _⟩ => ⟨S1x1024x2048, .f32⟩
  | .local _ .vmem, ⟨0, _⟩ => ⟨S16x1x1x128, .f32⟩
  | .local _ .vmem, ⟨1, _⟩ => ⟨S16x1x1x128, .f32⟩
  | .local _ .vmem, ⟨2, _⟩ => ⟨S16x1x1x128, .f32⟩
  | .local _ .vmem, ⟨3, _⟩ => ⟨S16x1x1x128, .f32⟩
  | .local _ .vmem, ⟨4, _⟩ => ⟨S1x128x16, .f32⟩
  | .local _ .vmem, ⟨5, _⟩ => ⟨S1x128x16, .f32⟩
  | .local _ .vmem, ⟨6, _⟩ => ⟨S1x128x16, .f32⟩
  | .local _ .vmem, ⟨7, _⟩ => ⟨S1x128x16, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x8x128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x1024x128, .f32⟩
  | .local _ .vmem, ⟨19, _⟩ => ⟨S1x1024x128, .f32⟩
  | .local _ .vmem, ⟨20, _⟩ => ⟨S8x128x128, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_c : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_cst_0 : Ref sig .tc := ⟨.hbm, 47, rfl⟩
abbrev main_call0_cst_1 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_c_2 : Ref sig .tc := ⟨.hbm, 54, rfl⟩
abbrev main_call0_call1_v0 : Ref sig .tc := ⟨.hbm, 55, rfl⟩
abbrev main_call0_call1_v1 : Ref sig .tc := ⟨.hbm, 56, rfl⟩
abbrev main_call0_call1_v2 : Ref sig .tc := ⟨.hbm, 57, rfl⟩
abbrev main_call0_call1_v3 : Ref sig .tc := ⟨.hbm, 58, rfl⟩
abbrev main_call0_call1_v4 : Ref sig .tc := ⟨.hbm, 59, rfl⟩
abbrev main_call0_call1_v5 : Ref sig .tc := ⟨.hbm, 60, rfl⟩
abbrev main_call0_call1_v6 : Ref sig .tc := ⟨.hbm, 61, rfl⟩
abbrev main_call0_call1_v7 : Ref sig .tc := ⟨.hbm, 62, rfl⟩
abbrev main_call0_call1_v8 : Ref sig .tc := ⟨.hbm, 63, rfl⟩
abbrev main_call0_call1_c : Ref sig .tc := ⟨.hbm, 64, rfl⟩
abbrev main_call0_call1_v9 : Ref sig .tc := ⟨.hbm, 65, rfl⟩
abbrev main_call0_call1_v10 : Ref sig .tc := ⟨.hbm, 66, rfl⟩
abbrev main_call0_call1_v11 : Ref sig .tc := ⟨.hbm, 67, rfl⟩
abbrev main_call0_call1_c_0 : Ref sig .tc := ⟨.hbm, 68, rfl⟩
abbrev main_call0_call1_v12 : Ref sig .tc := ⟨.hbm, 69, rfl⟩
abbrev main_call0_call1_v13 : Ref sig .tc := ⟨.hbm, 70, rfl⟩
abbrev main_call0_v40 : Ref sig .tc := ⟨.hbm, 71, rfl⟩
abbrev main_call0_v41 : Ref sig .tc := ⟨.hbm, 72, rfl⟩
abbrev main_call0_c_3 : Ref sig .tc := ⟨.hbm, 73, rfl⟩
abbrev main_call0_call2_v0 : Ref sig .tc := ⟨.hbm, 74, rfl⟩
abbrev main_call0_call2_v1 : Ref sig .tc := ⟨.hbm, 75, rfl⟩
abbrev main_call0_call2_v2 : Ref sig .tc := ⟨.hbm, 76, rfl⟩
abbrev main_call0_call2_v3 : Ref sig .tc := ⟨.hbm, 77, rfl⟩
abbrev main_call0_call2_v4 : Ref sig .tc := ⟨.hbm, 78, rfl⟩
abbrev main_call0_call2_v5 : Ref sig .tc := ⟨.hbm, 79, rfl⟩
abbrev main_call0_call2_v6 : Ref sig .tc := ⟨.hbm, 80, rfl⟩
abbrev main_call0_call2_v7 : Ref sig .tc := ⟨.hbm, 81, rfl⟩
abbrev main_call0_call2_v8 : Ref sig .tc := ⟨.hbm, 82, rfl⟩
abbrev main_call0_call2_c : Ref sig .tc := ⟨.hbm, 83, rfl⟩
abbrev main_call0_call2_v9 : Ref sig .tc := ⟨.hbm, 84, rfl⟩
abbrev main_call0_call2_v10 : Ref sig .tc := ⟨.hbm, 85, rfl⟩
abbrev main_call0_call2_v11 : Ref sig .tc := ⟨.hbm, 86, rfl⟩
abbrev main_call0_call2_c_0 : Ref sig .tc := ⟨.hbm, 87, rfl⟩
abbrev main_call0_call2_v12 : Ref sig .tc := ⟨.hbm, 88, rfl⟩
abbrev main_call0_call2_v13 : Ref sig .tc := ⟨.hbm, 89, rfl⟩
abbrev main_call0_v42 : Ref sig .tc := ⟨.hbm, 90, rfl⟩
abbrev main_call0_v43 : Ref sig .tc := ⟨.hbm, 91, rfl⟩
abbrev main_call0_v44 : Ref sig .tc := ⟨.hbm, 92, rfl⟩
abbrev main_v0 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![1, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S1x16x2048x64 : Shape := ⟨4, ![1, 16, 2048, 64]⟩
abbrev S1x16x2048 : Shape := ⟨3, ![1, 16, 2048]⟩
abbrev S16x64x64 : Shape := ⟨3, ![16, 64, 64]⟩
abbrev S16x1x64 : Shape := ⟨3, ![16, 1, 64]⟩
abbrev S1x16x1x64 : Shape := ⟨4, ![1, 16, 1, 64]⟩
abbrev S16x64x1x2048 : Shape := ⟨4, ![16, 64, 1, 2048]⟩
abbrev S_ : Shape := ⟨0, ![]⟩
abbrev S1x16x2048x1 : Shape := ⟨4, ![1, 16, 2048, 1]⟩
abbrev S2048x1x16x64 : Shape := ⟨4, ![2048, 1, 16, 64]⟩
abbrev S2048x1x16 : Shape := ⟨3, ![2048, 1, 16]⟩
abbrev S1x16x64x64 : Shape := ⟨4, ![1, 16, 64, 64]⟩
abbrev S1x1x16x64 : Shape := ⟨4, ![1, 1, 16, 64]⟩
abbrev S1x16x64 : Shape := ⟨3, ![1, 16, 64]⟩
abbrev S1x1x16 : Shape := ⟨3, ![1, 1, 16]⟩
abbrev S1x16 : Shape := ⟨2, ![1, 16]⟩
abbrev S1x16x1x1 : Shape := ⟨4, ![1, 16, 1, 1]⟩
abbrev S1x16x64x1 : Shape := ⟨4, ![1, 16, 64, 1]⟩
abbrev S1x16x64x2048 : Shape := ⟨4, ![1, 16, 64, 2048]⟩
abbrev S1x1024x2048 : Shape := ⟨3, ![1, 1024, 2048]⟩

abbrev nBuf : Space → Nat
  | .hbm => 160
  | .vmem => 0
  | .smem => 0
  | _ => 0

abbrev hbmTy0_0 (i : Nat) : BufTy := match i % 128 with
  | 0 => ⟨S1x16x2048x64, .f32⟩
  | 1 => ⟨S1x16x2048x64, .f32⟩
  | 2 => ⟨S1x16x2048x64, .f32⟩
  | 3 => ⟨S1x16x2048, .f32⟩
  | 4 => ⟨S1x16x2048, .f32⟩
  | 5 => ⟨S16x64x64, .f32⟩
  | 6 => ⟨S16x1x64, .f32⟩
  | 7 => ⟨S16x1x64, .f32⟩
  | 8 => ⟨S1x16x1x64, .f32⟩
  | 9 => ⟨S1x16x1x64, .f32⟩
  | 10 => ⟨S16x64x1x2048, .f32⟩
  | 11 => ⟨S1x16x2048x64, .f32⟩
  | 12 => ⟨S_, .f32⟩
  | 13 => ⟨S1x16x2048, .f32⟩
  | 14 => ⟨S1x16x2048x1, .f32⟩
  | 15 => ⟨S_, .f32⟩
  | 16 => ⟨S1x16x2048x1, .f32⟩
  | 17 => ⟨S1x16x2048x1, .f32⟩
  | 18 => ⟨S1x16x2048x64, .f32⟩
  | 19 => ⟨S1x16x2048x64, .f32⟩
  | 20 => ⟨S1x16x2048x64, .f32⟩
  | 21 => ⟨S_, .f32⟩
  | 22 => ⟨S1x16x2048, .f32⟩
  | 23 => ⟨S1x16x2048x1, .f32⟩
  | 24 => ⟨S_, .f32⟩
  | 25 => ⟨S1x16x2048x1, .f32⟩
  | 26 => ⟨S1x16x2048x1, .f32⟩
  | 27 => ⟨S_, .f32⟩
  | 28 => ⟨S1x16x2048x1, .f32⟩
  | 29 => ⟨S1x16x2048x1, .f32⟩
  | 30 => ⟨S1x16x2048x1, .f32⟩
  | 31 => ⟨S1x16x2048x64, .f32⟩
  | 32 => ⟨S1x16x2048x64, .f32⟩
  | 33 => ⟨S1x16x2048x64, .f32⟩
  | 34 => ⟨S1x16x2048x64, .f32⟩
  | 35 => ⟨S1x16x2048x64, .f32⟩
  | 36 => ⟨S1x16x2048x64, .f32⟩
  | 37 => ⟨S1x16x2048x64, .f32⟩
  | 38 => ⟨S1x16x2048x64, .f32⟩
  | 39 => ⟨S1x16x2048x64, .f32⟩
  | 40 => ⟨S1x16x2048x64, .f32⟩
  | 41 => ⟨S_, .f32⟩
  | 42 => ⟨S1x16x2048x64, .f32⟩
  | 43 => ⟨S1x16x2048x64, .f32⟩
  | 44 => ⟨S1x16x2048x64, .f32⟩
  | 45 => ⟨S1x16x2048x64, .f32⟩
  | 46 => ⟨S_, .f32⟩
  | 47 => ⟨S1x16x2048, .f32⟩
  | 48 => ⟨S1x16x2048x1, .f32⟩
  | 49 => ⟨S_, .f32⟩
  | 50 => ⟨S1x16x2048x1, .f32⟩
  | 51 => ⟨S1x16x2048x1, .f32⟩
  | 52 => ⟨S1x16x2048x64, .f32⟩
  | 53 => ⟨S1x16x2048x64, .f32⟩
  | 54 => ⟨S1x16x2048x64, .f32⟩
  | 55 => ⟨S_, .f32⟩
  | 56 => ⟨S1x16x2048, .f32⟩
  | 57 => ⟨S1x16x2048x1, .f32⟩
  | 58 => ⟨S_, .f32⟩
  | 59 => ⟨S1x16x2048x1, .f32⟩
  | 60 => ⟨S1x16x2048x1, .f32⟩
  | 61 => ⟨S1x16x2048x64, .f32⟩
  | 62 => ⟨S1x16x2048x64, .f32⟩
  | 63 => ⟨S1x16x2048x64, .f32⟩
  | 64 => ⟨S1x16x2048x64, .f32⟩
  | 65 => ⟨S1x16x2048x64, .f32⟩
  | 66 => ⟨S2048x1x16x64, .f32⟩
  | 67 => ⟨S2048x1x16x64, .f32⟩
  | 68 => ⟨S2048x1x16x64, .f32⟩
  | 69 => ⟨S2048x1x16, .f32⟩
  | 70 => ⟨S2048x1x16, .f32⟩
  | 71 => ⟨S1x16x64x64, .f32⟩
  | 72 => ⟨S_, .f32⟩
  | 73 => ⟨S2048x1x16x64, .f32⟩
  | 74 => ⟨S_, .i32⟩
  | 75 => ⟨S2048x1x16x64, .f32⟩
  | 76 => ⟨S2048x1x16x64, .f32⟩
  | 77 => ⟨S2048x1x16x64, .f32⟩
  | 78 => ⟨S2048x1x16, .f32⟩
  | 79 => ⟨S2048x1x16, .f32⟩
  | 80 => ⟨S_, .i32⟩
  | 81 => ⟨S1x16x64x64, .f32⟩
  | 82 => ⟨S2048x1x16x64, .f32⟩
  | 83 => ⟨S_, .i32⟩
  | 84 => ⟨S_, .i1⟩
  | 85 => ⟨S_, .i32⟩
  | 86 => ⟨S_, .i32⟩
  | 87 => ⟨S_, .i32⟩
  | 88 => ⟨S1x1x16x64, .f32⟩
  | 89 => ⟨S1x16x64, .f32⟩
  | 90 => ⟨S_, .i32⟩
  | 91 => ⟨S_, .i32⟩
  | 92 => ⟨S_, .i32⟩
  | 93 => ⟨S1x1x16x64, .f32⟩
  | 94 => ⟨S1x16x64, .f32⟩
  | 95 => ⟨S_, .i32⟩
  | 96 => ⟨S_, .i32⟩
  | 97 => ⟨S_, .i32⟩
  | 98 => ⟨S1x1x16x64, .f32⟩
  | 99 => ⟨S1x16x64, .f32⟩
  | 100 => ⟨S_, .i32⟩
  | 101 => ⟨S_, .i32⟩
  | 102 => ⟨S1x1x16, .f32⟩
  | 103 => ⟨S1x16, .f32⟩
  | 104 => ⟨S_, .i32⟩
  | 105 => ⟨S_, .i32⟩
  | 106 => ⟨S1x1x16, .f32⟩
  | 107 => ⟨S1x16, .f32⟩
  | 108 => ⟨S1x16x1x1, .f32⟩
  | 109 => ⟨S1x16x1x1, .f32⟩
  | 110 => ⟨S1x16x64x1, .f32⟩
  | 111 => ⟨S1x16x1x64, .f32⟩
  | 112 => ⟨S1x16x64x64, .f32⟩
  | 113 => ⟨S1x16x64x64, .f32⟩
  | 114 => ⟨S1x16x64x64, .f32⟩
  | 115 => ⟨S1x16x64x64, .f32⟩
  | 116 => ⟨S1x16x64x64, .f32⟩
  | 117 => ⟨S1x16x1x1, .f32⟩
  | 118 => ⟨S1x16x64x64, .f32⟩
  | 119 => ⟨S1x16x64x64, .f32⟩
  | 120 => ⟨S1x16x64x64, .f32⟩
  | 121 => ⟨S1x16x64, .f32⟩
  | 122 => ⟨S1x1x16x64, .f32⟩
  | 123 => ⟨S_, .i32⟩
  | 124 => ⟨S_, .i32⟩
  | 125 => ⟨S_, .i32⟩
  | 126 => ⟨S2048x1x16x64, .f32⟩
  | 127 => ⟨S_, .i32⟩
  | _ => ⟨S1x16x2048x64, .f32⟩

abbrev hbmTy0_1 (i : Nat) : BufTy := match i % 128 with
  | 0 => ⟨S_, .i32⟩
  | 1 => ⟨S1x16x2048x64, .f32⟩
  | 2 => ⟨S_, .f32⟩
  | 3 => ⟨S1x16x2048, .f32⟩
  | 4 => ⟨S1x16x2048x1, .f32⟩
  | 5 => ⟨S_, .f32⟩
  | 6 => ⟨S1x16x2048x1, .f32⟩
  | 7 => ⟨S1x16x2048x1, .f32⟩
  | 8 => ⟨S1x16x2048x64, .f32⟩
  | 9 => ⟨S1x16x2048x64, .f32⟩
  | 10 => ⟨S1x16x2048x64, .f32⟩
  | 11 => ⟨S_, .f32⟩
  | 12 => ⟨S1x16x2048, .f32⟩
  | 13 => ⟨S1x16x2048x1, .f32⟩
  | 14 => ⟨S_, .f32⟩
  | 15 => ⟨S1x16x2048x1, .f32⟩
  | 16 => ⟨S1x16x2048x1, .f32⟩
  | 17 => ⟨S1x16x2048x64, .f32⟩
  | 18 => ⟨S1x16x2048x64, .f32⟩
  | 19 => ⟨S_, .f32⟩
  | 20 => ⟨S1x16x2048x1, .f32⟩
  | 21 => ⟨S1x16x2048x1, .f32⟩
  | 22 => ⟨S1x16x2048x1, .f32⟩
  | 23 => ⟨S1x16x2048x64, .f32⟩
  | 24 => ⟨S1x16x2048x64, .f32⟩
  | 25 => ⟨S1x16x2048x64, .f32⟩
  | 26 => ⟨S1x16x2048x64, .f32⟩
  | 27 => ⟨S1x16x2048x64, .f32⟩
  | 28 => ⟨S1x16x2048x64, .f32⟩
  | 29 => ⟨S1x16x2048x64, .f32⟩
  | 30 => ⟨S1x16x64x2048, .f32⟩
  | 31 => ⟨S1x1024x2048, .f32⟩
  | _ => ⟨S1x16x2048x64, .f32⟩

abbrev hbmTy (i : Nat) : BufTy := match i / 128 with
  | 0 => hbmTy0_0 i
  | 1 => hbmTy0_1 i
  | _ => ⟨S1x16x2048x64, .f32⟩

abbrev bufTy : (tb : Table) → Fin (tcTables nBuf tb) → BufTy
  | .hbm, ⟨i, _⟩ => hbmTy i
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_c : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_v55_3 : Ref sig .tc := ⟨.hbm, 78, rfl⟩
abbrev main_v55_4 : Ref sig .tc := ⟨.hbm, 79, rfl⟩
abbrev main_v55_5 : Ref sig .tc := ⟨.hbm, 80, rfl⟩
abbrev main_v55_6 : Ref sig .tc := ⟨.hbm, 81, rfl⟩
abbrev main_v55_7 : Ref sig .tc := ⟨.hbm, 82, rfl⟩
abbrev main_while0c_c_22 : Ref sig .tc := ⟨.hbm, 83, rfl⟩
abbrev main_while0c_v82 : Ref sig .tc := ⟨.hbm, 84, rfl⟩
abbrev main_while0b_call0_c : Ref sig .tc := ⟨.hbm, 85, rfl⟩
abbrev main_while0b_call0_c_0 : Ref sig .tc := ⟨.hbm, 86, rfl⟩
abbrev main_while0b_call0_c_1 : Ref sig .tc := ⟨.hbm, 87, rfl⟩
abbrev main_while0b_call0_v0 : Ref sig .tc := ⟨.hbm, 88, rfl⟩
abbrev main_while0b_v82 : Ref sig .tc := ⟨.hbm, 89, rfl⟩
abbrev main_while0b_call1_c : Ref sig .tc := ⟨.hbm, 90, rfl⟩
abbrev main_while0b_call1_c_0 : Ref sig .tc := ⟨.hbm, 91, rfl⟩
abbrev main_while0b_call1_c_1 : Ref sig .tc := ⟨.hbm, 92, rfl⟩
abbrev main_while0b_call1_v0 : Ref sig .tc := ⟨.hbm, 93, rfl⟩
abbrev main_while0b_v83 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_v0 : Ref sig .tc := ⟨.hbm, 98, rfl⟩
abbrev main_while0b_v84 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_v0 : Ref sig .tc := ⟨.hbm, 102, rfl⟩
abbrev main_while0b_v85 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_v0 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_v100 : Ref sig .tc := ⟨.hbm, 121, rfl⟩
abbrev main_while0b_call5_v0 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_v101 : Ref sig .tc := ⟨.hbm, 126, rfl⟩
abbrev main_while0b_c_22 : Ref sig .tc := ⟨.hbm, 127, rfl⟩
abbrev main_while0b_v102 : Ref sig .tc := ⟨.hbm, 128, rfl⟩
abbrev main_v56 : Ref sig .tc := ⟨.hbm, 129, rfl⟩
abbrev main_cst_10 : Ref sig .tc := ⟨.hbm, 130, rfl⟩
abbrev main_v57 : Ref sig .tc := ⟨.hbm, 131, rfl⟩
abbrev main_v58 : Ref sig .tc := ⟨.hbm, 132, rfl⟩
abbrev main_cst_11 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_cst_12 : Ref sig .tc := ⟨.hbm, 139, rfl⟩
abbrev main_v64 : Ref sig .tc := ⟨.hbm, 140, rfl⟩
abbrev main_v65 : Ref sig .tc := ⟨.hbm, 141, rfl⟩
abbrev main_cst_13 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_14 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩

abbrev nD : Nat := 1
abbrev τ : Topo := Topo.v7x

variable {F : FTy → Type} [FloatOps F]

abbrev main_while0_count : Scf.Loop 32 := ⟨0#32, 2048#32, 1#32⟩
-- ==== Proof.Emb.lean ====
/- Arrays of reals read as arrays of extended reals, and the few arithmetic facts that carry a computation
   on finite numbers through the ideal float operations. -/
module

public import Idealize.ShloMosaic.Lib.Pointwise

@[expose] public section

noncomputable section

namespace Cert.Memory

open Idealize.ShloMosaic
open scoped BigOperators

/-- A matrix of reals as a float array of the ideal instance. -/
def emb2 {a b : ℕ} (r : Fin a → Fin b → ℝ) : FVec Ideal ⟨2, ![a, b]⟩ .f32 := fun i => ((r (i 0) (i 1) : ℝ) : EReal)

/-- A three-axis array of reals as a float array of the ideal instance. -/
def emb3 {a b c : ℕ} (r : Fin a → Fin b → Fin c → ℝ) : FVec Ideal ⟨3, ![a, b, c]⟩ .f32 :=
  fun i => ((r (i 0) (i 1) (i 2) : ℝ) : EReal)

/-- A four-axis array of reals as a float array of the ideal instance. -/
def emb4 {a b c d : ℕ} (r : Fin a → Fin b → Fin c → Fin d → ℝ) : FVec Ideal ⟨4, ![a, b, c, d]⟩ .f32 :=
  fun i => ((r (i 0) (i 1) (i 2) (i 3) : ℝ) : EReal)

theorem emb2_ix {a b : ℕ} (r : Fin a → Fin b → ℝ) (i : Fin a) (j : Fin b) : emb2 r (ix2 i j) = ((r i j : ℝ) : EReal) := rfl
theorem emb3_ix {a b c : ℕ} (r : Fin a → Fin b → Fin c → ℝ) (i : Fin a) (j : Fin b) (k : Fin c) :
    emb3 r (ix3 i j k) = ((r i j k : ℝ) : EReal) := rfl
theorem emb4_ix {a b c d : ℕ} (r : Fin a → Fin b → Fin c → Fin d → ℝ) (i : Fin a) (j : Fin b) (k : Fin c) (l : Fin d) :
    emb4 r (ix4 i j k l) = ((r i j k l : ℝ) : EReal) := rfl

/-- A matrix that reads finite numbers at every row and column is the matrix of those numbers. -/
theorem ext2 {a b : ℕ} {X : FVec Ideal ⟨2, ![a, b]⟩ .f32} {r : Fin a → Fin b → ℝ}
    (h : ∀ i j, X (ix2 i j) = ((r i j : ℝ) : EReal)) : X = emb2 r := by
  funext i
  have : i = ix2 (i 0) (i 1) := by funext d; match d with | ⟨0, _⟩ => rfl | ⟨1, _⟩ => rfl
  rw [this]; exact h _ _

/-- The same for three axes. -/
theorem ext3 {a b c : ℕ} {X : FVec Ideal ⟨3, ![a, b, c]⟩ .f32} {r : Fin a → Fin b → Fin c → ℝ}
    (h : ∀ i j k, X (ix3 i j k) = ((r i j k : ℝ) : EReal)) : X = emb3 r := by
  funext i
  have : i = ix3 (i 0) (i 1) (i 2) := by funext d; match d with | ⟨0, _⟩ => rfl | ⟨1, _⟩ => rfl | ⟨2, _⟩ => rfl
  rw [this]; exact h _ _ _

/-- The same for four axes. -/
theorem ext4 {a b c d : ℕ} {X : FVec Ideal ⟨4, ![a, b, c, d]⟩ .f32} {r : Fin a → Fin b → Fin c → Fin d → ℝ}
    (h : ∀ i j k l, X (ix4 i j k l) = ((r i j k l : ℝ) : EReal)) : X = emb4 r := by
  funext i
  have : i = ix4 (i 0) (i 1) (i 2) (i 3) := by
    funext d; match d with | ⟨0, _⟩ => rfl | ⟨1, _⟩ => rfl | ⟨2, _⟩ => rfl | ⟨3, _⟩ => rfl
  rw [this]; exact h _ _ _ _

/-- A finite sum of reals, read as an extended real, is the sum of the terms so read. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

end Cert.Memory

end
-- ==== Proof.Model.lean ====
/- What one grid point computes, on finite numbers: the kernel's 16 heads of 64 lanes laid out as 1024 rows (two heads to
   a 128-row pair), over the 128 tokens of its chunk. -/
module

public import proofs.«01_k».proof.Proof.Emb

@[expose] public section

noncomputable section

namespace Cert.Memory

open scoped BigOperators

/-- The head a row belongs to. -/
def hd (i : Fin 1024) : Fin 16 := ⟨i.val / 64, by have := i.isLt; omega⟩
/-- The pair of heads a row belongs to. -/
def pr (i : Fin 1024) : Fin 8 := ⟨i.val / 128, by have := i.isLt; omega⟩
/-- A row's place within its pair. -/
def inn (i : Fin 1024) : Fin 128 := ⟨i.val % 128, Nat.mod_lt _ (by norm_num)⟩
/-- Lane `e` of head `h`, as a row. -/
def row (h : Fin 16) (e : Fin 64) : Fin 1024 := ⟨h.val * 64 + e.val, by have := h.isLt; have := e.isLt; omega⟩
/-- Place `r` of pair `p`, as a row. -/
def prow (p : Fin 8) (r : Fin 128) : Fin 1024 := ⟨p.val * 128 + r.val, by have := p.isLt; have := r.isLt; omega⟩

/-- The value the layer norm adds to a variance. -/
def eps : ℝ := 8796093 * (2 : ℝ) ^ (-43 : ℤ)

theorem eps_pos : 0 < eps := by unfold eps; positivity

/-- Rows by tokens. -/
abbrev Rows := Fin 1024 → Fin 128 → ℝ
/-- Heads by tokens. -/
abbrev Heads := Fin 16 → Fin 128 → ℝ
/-- One matrix for each pair of heads. -/
abbrev Pairs := Fin 8 → Fin 128 → Fin 128 → ℝ

/-- The mean over each head's lanes. -/
def segmean (x : Rows) : Heads := fun h t => (∑ e : Fin 64, x (row h e) t) / 64
/-- The rows less their head's mean. -/
def cent (x : Rows) : Rows := fun i t => x i t - segmean x (hd i) t
/-- One over each head's standard deviation. -/
def istd (x : Rows) : Heads := fun h t => (√(segmean (fun i t => cent x i t * cent x i t) h t + eps))⁻¹
/-- The rows normalised head by head. -/
def nrm (x : Rows) : Rows := fun i t => cent x i t * istd x (hd i) t
/-- Half the gradient of the squared error with respect to the normalised rows. -/
def resid (k v z : Rows) : Rows := fun i t => nrm z i t + k i t - v i t
/-- Minus half the gradient with respect to the rows `z` before the layer norm. -/
def zneg (k v z : Rows) : Rows := fun i t =>
  (segmean (resid k v z) (hd i) t + nrm z i t * segmean (fun i t => resid k v z i t * nrm z i t) (hd i) t - resid k v z i t)
    * istd z (hd i) t
/-- Each pair's matrix times that pair's rows. -/
def pmul (w : Pairs) (k : Rows) : Rows := fun i t => ∑ d : Fin 128, w (pr i) (inn i) d * k (prow (pr i) d) t
/-- The running sum of a head's values up to and including a token. -/
def cum (l : Heads) : Heads := fun h t => ∑ s : Fin 128, l h s * (if s ≤ t then 1 else 0)
/-- The logarithms of a head's values. -/
def lg (g : Heads) : Heads := fun h t => Real.log (g h t)
/-- The part of a chunk's read-out that comes from the chunk's own tokens, `cl` and `lev` the logarithms of the decays. -/
def intra (k q zn : Rows) (cl : Heads) (lev : Fin 128 → Fin 16 → ℝ) : Rows := fun i t =>
  ∑ s : Fin 128, zn i s * ((∑ e : Fin 64, k (row (hd i) e) s * q (row (hd i) e) t) *
    (if s ≤ t then Real.exp (cl (hd i) t - lev s (hd i)) else 0))
/-- The read-out before its layer norm. -/
def zq (q k zn : Rows) (g e : Heads) (S : Pairs) : Rows := fun i t =>
  Real.exp (cum (lg g) (hd i) t) * pmul S q i t
    + intra k q zn (cum (lg g)) (fun s h => cum (lg g) h s - lg e h s) i t
/-- The carried matrices after the chunk. -/
def upd (k zn : Rows) (g e : Heads) (S : Pairs) : Pairs := fun p r d =>
  Real.exp (cum (lg g) (hd (prow p d)) 127) * S p r d
    + (∑ t : Fin 128, zn (prow p r) t *
        (Real.exp (cum (lg g) (hd (prow p d)) 127 - cum (lg g) (hd (prow p d)) t + lg e (hd (prow p d)) t) * k (prow p d) t))
      * (if r.val / 64 = d.val / 64 then 1 else 0)

end Cert.Memory

end
-- ==== Proof.Ops.lean ====
/- The kernel's operations on finite numbers: each of its vector operations, at the ideal instance, takes arrays of reals to
   arrays of reals. -/
module

public import proofs.«01_k».proof.Proof.Gen.KernelIdeal.Skeleton
public import proofs.«01_k».proof.Proof.Model
public import Idealize.ShloMosaic.Lib.ValueLayout

@[expose] public section

noncomputable section

namespace Cert.Memory
open Idealize.ShloMosaic Cert.KernelIdeal Cert.KernelIdeal.Gen
open scoped BigOperators

theorem add_emb {a b : ℕ} (x y : Fin a → Fin b → ℝ) : addf (emb2 x) (emb2 y) = emb2 (fun i j => x i j + y i j) :=
  ext2 fun i j => by pointwise; rw [emb2_ix, emb2_ix, EReal.coe_add]
theorem sub_emb {a b : ℕ} (x y : Fin a → Fin b → ℝ) : subf (emb2 x) (emb2 y) = emb2 (fun i j => x i j - y i j) :=
  ext2 fun i j => by pointwise; rw [emb2_ix, emb2_ix, EReal.coe_sub]
theorem mul_emb {a b : ℕ} (x y : Fin a → Fin b → ℝ) : mulf (emb2 x) (emb2 y) = emb2 (fun i j => x i j * y i j) :=
  ext2 fun i j => by pointwise; rw [emb2_ix, emb2_ix, EReal.coe_mul]

/-- The layer norm's small constant is a positive real. -/
theorem eps_bits : Ideal.ofBits .f32 0x358637BD#32 = ((eps : ℝ) : EReal) := by
  simp [Ideal.ofBits, Ideal.ieee, eps]

/-- One over the square root of a variance plus the small constant. -/
theorem rsqrt_emb (x : Heads) (hx : ∀ h t, 0 ≤ x h t) :
    rsqrt (addf (emb2 x) (broadcast S16x128 (Scalar.ofBits (F := Ideal) .f32 0x358637BD#32))) = emb2 (fun h t => (√(x h t + eps))⁻¹) :=
  ext2 fun h t => by
    pointwise
    have hp : 0 < x h t + eps := add_pos_of_nonneg_of_pos (hx h t) eps_pos
    rw [emb2_ix, eps_bits, ← EReal.coe_add, Ideal.rsqrt_coe, if_neg (not_lt.2 hp.le), if_neg hp.ne']

/-- A head's number read as a word, for every row. -/
theorem head_word : ∀ i : Fin 1024, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) =
    BitVec.ofNat 32 (i.val / 64) := by decide +kernel

theorem pay26_ix (h : Fin 16) (i : Fin 1024) :
    k0_pay26 k0_pay23 k0_pay24 k0_pay25 0#32 (ix2 h i) = BitVec.ofNat 32 (i.val / 64) := by
  pointwise [k0_pay26, k0_pay23, k0_pay24, k0_pay25]
  exact head_word i

/-- An integer word as a float is the integer. -/
theorem sitofp_word {w : ℕ} (x : BitVec w) : (FloatOps.sitofp (F := Ideal) FTy.f32 x : EReal) = ((x.toInt : ℝ) : EReal) := rfl

/-- Two words compare equal, as a float, exactly when the numbers they were made of do. -/
theorem eq_float (a b : ℕ) (ha : a < 1024) (hb : b < 1024) :
    (FloatOps.sitofp (F := Ideal) FTy.f32 (BitVec.setWidth 32 (IntOp.cmpi CmpIPredicate.eq (BitVec.ofNat 32 a) (BitVec.ofNat 32 b))) : EReal)
      = (((if a = b then 1 else 0 : ℝ)) : EReal) := by
  by_cases h : a = b
  · subst h; simp [IntOp.cmpi, sitofp_word]
  · have : (BitVec.ofNat 32 a) ≠ (BitVec.ofNat 32 b) := by
      intro hh; apply h
      have := congrArg BitVec.toNat hh
      simp only [BitVec.toNat_ofNat] at this
      omega
    have hb' : (BitVec.ofNat 32 a == BitVec.ofNat 32 b) = false := beq_eq_false_iff_ne.2 this
    simp [IntOp.cmpi, hb', h, sitofp_word]

/-- The factor of the mean is one sixty-fourth. -/
theorem sixty_fourth : Ideal.ofBits .f32 0x3C800000#32 = ((1 / 64 : ℝ) : EReal) := by
  have h : Ideal.ofBits .f32 0x3C800000#32 = ((8388608 * (2 : ℝ) ^ (-29 : ℤ) : ℝ) : EReal) := by simp [Ideal.ofBits, Ideal.ieee]
  rw [h]; congr 1; norm_num

/-- The matrix that picks a head's rows. -/
def selM : Fin 16 → Fin 1024 → ℝ := fun h i => if i.val / 64 = h.val then 1 else 0
/-- The matrix that averages a head's rows. -/
def meanM : Fin 16 → Fin 1024 → ℝ := fun h i => (if i.val / 64 = h.val then 1 else 0) * (1 / 64)

theorem sel_emb : k0_pay28 (F := Ideal) k0_pay23 k0_pay24 k0_pay25 0#32 = emb2 selM :=
  ext2 fun h i => by
    have := i.isLt; have := h.isLt
    pointwise [k0_pay28]
    rw [pay26_ix]
    exact eq_float _ _ (by omega) (by omega)

theorem mean_emb : k0_pay27 (F := Ideal) k0_pay23 k0_pay24 k0_pay25 0#32 = emb2 meanM :=
  ext2 fun h i => by
    have := i.isLt; have := h.isLt
    pointwise [k0_pay27]
    rw [pay26_ix, eq_float _ _ (by omega) (by omega), meanM, EReal.coe_mul]
    congr 1
    exact sixty_fourth

/-- A sum over all rows of what lies in head `h` is the sum over that head's lanes. -/
theorem sum_head (f : Fin 1024 → ℝ) (h : Fin 16) :
    ∑ i : Fin 1024, (if i.val / 64 = h.val then f i else 0) = ∑ e : Fin 64, f (row h e) := by
  rw [← Finset.sum_filter]
  symm
  refine Finset.sum_bij (fun e _ => row h e) (fun e _ => ?_) (fun a _ b _ hab => ?_) (fun i hi => ?_) (fun _ _ => rfl)
  · have := e.isLt
    rw [Finset.mem_filter]; refine ⟨Finset.mem_univ _, ?_⟩; show (h.val * 64 + e.val) / 64 = h.val; omega
  · have := congrArg Fin.val hab
    simp only [row] at this
    exact Fin.ext (by omega)
  · have hi' := (Finset.mem_filter.1 hi).2
    refine ⟨⟨i.val % 64, Nat.mod_lt _ (by norm_num)⟩, Finset.mem_univ _, Fin.ext ?_⟩
    show h.val * 64 + i.val % 64 = i.val
    omega

theorem segmean_emb (x : Rows) :
    matmul dot_S16x1024_S1024x128_S16x128_1_0_0_1_n_n none (emb2 meanM) (emb2 x) (constant (F := Ideal) S16x128 .f32 0x00000000#32)
      = emb2 (segmean x) :=
  ext2 fun h t => by
    pointwise
    simp only [emb2_ix, ← EReal.coe_mul, coe_sum, zero_add]
    congr 1
    rw [segmean, ← sum_head (fun i => x i t) h, Finset.sum_div]
    refine Finset.sum_congr rfl fun i _ => ?_
    rw [meanM]; split_ifs <;> ring

theorem spread_emb (m : Heads) :
    matmul dot_S16x1024_S16x128_S1024x128_0_0_1_1_n_n none (emb2 selM) (emb2 m) (constant (F := Ideal) S1024x128 .f32 0x00000000#32)
      = emb2 (fun i t => m (hd i) t) :=
  ext2 fun i t => by
    pointwise
    simp only [emb2_ix, ← EReal.coe_mul, coe_sum, zero_add]
    congr 1
    rw [Finset.sum_eq_single (hd i)]
    · simp [selM, hd]
    · intro b _ hb
      have : ¬ (i.val / 64 = b.val) := fun hh => hb (Fin.ext hh.symm)
      simp [selM, this]
    · simp

/-! ## Rows, pairs and lanes -/

theorem hd_row (h : Fin 16) (e : Fin 64) : hd (row h e) = h := Fin.ext (by
  have := e.isLt; show (h.val * 64 + e.val) / 64 = h.val; omega)
theorem pr_prow (p : Fin 8) (r : Fin 128) : pr (prow p r) = p := Fin.ext (by
  have := r.isLt; show (p.val * 128 + r.val) / 128 = p.val; omega)
theorem inn_prow (p : Fin 8) (r : Fin 128) : inn (prow p r) = r := Fin.ext (by
  have := r.isLt; show (p.val * 128 + r.val) % 128 = r.val; omega)

/-! ## Slices, casts and broadcasts -/

/-- Rows cut from `o` on. -/
theorem rows_emb {a b m : ℕ} (o : ℕ) (x : Fin a → Fin b → ℝ) (f : Fin m → Fin a) (hf : ∀ r, (f r).val = o + r.val)
    (h : (⟨2, ![a, b]⟩ : Shape).Slices ![o, 0] ⟨2, ![m, b]⟩) :
    extractStridedSlice ⟨2, ![m, b]⟩ ![o, 0] (emb2 x) h = emb2 (fun r t => x (f r) t) :=
  ext2 fun i j => (ValueIdx.slice2_axis0_apply o _ h i j (f i) (hf i)).trans rfl

/-- Columns cut from `o` on. -/
theorem cols_emb {a b m : ℕ} (o : ℕ) (x : Fin a → Fin b → ℝ) (f : Fin m → Fin b) (hf : ∀ r, (f r).val = o + r.val)
    (h : (⟨2, ![a, b]⟩ : Shape).Slices ![0, o] ⟨2, ![a, m]⟩) :
    extractStridedSlice ⟨2, ![a, m]⟩ ![0, o] (emb2 x) h = emb2 (fun r t => x r (f t)) :=
  ext2 fun i j => (ValueIdx.slice2_axis1_apply o _ h i j (f j) (hf j)).trans rfl

theorem brow_emb (x : Fin 1 → Fin 128 → ℝ) :
    broadcastTo S128x128 (emb2 x) broadcasts_S1x128_S128x128 = emb2 (fun _ t => x 0 t) :=
  ext2 fun i j => by pointwise; rw [emb2_ix]
theorem bcol_emb (x : Fin 128 → Fin 1 → ℝ) :
    broadcastTo S128x128 (emb2 x) broadcasts_S128x1_S128x128 = emb2 (fun s _ => x s 0) :=
  ext2 fun i j => by pointwise; rw [emb2_ix]
theorem bhead_emb (x : Fin 16 → Fin 1 → ℝ) :
    broadcastTo S16x128 (emb2 x) broadcasts_S16x1_S16x128 = emb2 (fun h _ => x h 0) :=
  ext2 fun i j => by pointwise; rw [emb2_ix]
theorem cast_rows (x : Rows) : shapeCast S1024x128 (emb3 fun _ : Fin 1 => x) shapeCasts_S1x1024x128_S1024x128 = emb2 x :=
  ext2 fun i j => by pointwise; rw [emb3_ix]
theorem cast_out (x : Rows) : shapeCast S1x1024x128 (emb2 x) shapeCasts_S1024x128_S1x1024x128 = emb3 fun _ : Fin 1 => x :=
  ext3 fun u i j => by pointwise; rw [emb2_ix]
theorem cast_sq (x : FVec Ideal S128x128 .f32) : shapeCast S128x128 x shapeCasts_S128x128_S128x128 = x := by
  funext i; pointwise
theorem cast_pair (x : Fin 128 → Fin 128 → ℝ) :
    shapeCast S128x128 (emb4 fun _ _ : Fin 1 => x) shapeCasts_S1x1x128x128_S128x128 = emb2 x :=
  ext2 fun i j => by pointwise; rw [emb4_ix]
theorem cast_state (x : Fin 128 → Fin 128 → ℝ) :
    shapeCast S128x128 (emb3 fun _ : Fin 1 => x) shapeCasts_S1x128x128_S128x128 = emb2 x :=
  ext2 fun i j => by pointwise; rw [emb3_ix]
theorem cast_state_out (x : Fin 128 → Fin 128 → ℝ) :
    shapeCast S1x128x128 (emb2 x) shapeCasts_S128x128_S1x128x128 = emb3 fun _ : Fin 1 => x :=
  ext3 fun u i j => by pointwise; rw [emb2_ix]
theorem cast_heads (x : Heads) :
    shapeCast S16x128 (emb4 fun h (_ _ : Fin 1) t => x h t) shapeCasts_S16x1x1x128_S16x128 = emb2 x :=
  ext2 fun i j => by pointwise; rw [emb4_ix]
theorem cast_cols (x : Fin 128 → Fin 16 → ℝ) :
    shapeCast S128x16 (emb3 fun _ : Fin 1 => x) shapeCasts_S1x128x16_S128x16 = emb2 x :=
  ext2 fun i j => by pointwise; rw [emb3_ix]

/-! ## Exponentials and logarithms -/

theorem exp_emb {a b : ℕ} (x : Fin a → Fin b → ℝ) : exp (emb2 x) = emb2 (fun i j => Real.exp (x i j)) :=
  ext2 fun i j => by pointwise; rw [emb2_ix, Ideal.exp_coe]

/-- The mask of the tokens: nothing where the first comes no later, minus infinity where it comes later. -/
def maskV : FVec Ideal S128x128 .f32 := fun i => if i 0 ≤ i 1 then ((0 : ℝ) : EReal) else ⊥

/-- The exponential of masked reals: zero where the mask is minus infinity. -/
theorem exp_mask (x : Fin 128 → Fin 128 → ℝ) :
    exp (addf (emb2 x) maskV) = emb2 (fun s t => if s ≤ t then Real.exp (x s t) else 0) :=
  ext2 fun s t => by
    pointwise
    show Ideal.exp (((x s t : ℝ) : EReal) + if s ≤ t then ((0 : ℝ) : EReal) else ⊥) = _
    split_ifs
    · rw [← EReal.coe_add, Ideal.exp_coe, add_zero]
    · rw [EReal.add_bot, Ideal.exp_bot, EReal.coe_zero]

/-- The kernel's floor under a logarithm is minus 88. -/
theorem floor_bits : Ideal.ofBits .f32 0xC2B00000#32 = ((-88 : ℝ) : EReal) := by
  have h : Ideal.ofBits .f32 0xC2B00000#32 = ((-11534336 * (2 : ℝ) ^ (-17 : ℤ) : ℝ) : EReal) := by
    simp [Ideal.ofBits, Ideal.ieee]
  rw [h]; congr 1; norm_num

/-- A logarithm with a floor under it is the logarithm, of a number that is not below the floor's exponential. -/
theorem logmax_emb {a b : ℕ} (x : Fin a → Fin b → ℝ) (hx : ∀ i j, Real.exp (-88) ≤ x i j) :
    maximumf (log (emb2 x)) (broadcast ⟨2, ![a, b]⟩ (Scalar.ofBits (F := Ideal) .f32 0xC2B00000#32))
      = emb2 (fun i j => Real.log (x i j)) :=
  ext2 fun i j => by
    pointwise
    have hp : 0 < x i j := (Real.exp_pos _).trans_le (hx i j)
    rw [emb2_ix, Ideal.log_coe, if_neg (not_le.2 hp), floor_bits]
    refine max_eq_left (EReal.coe_le_coe_iff.2 ?_)
    rw [Real.le_log_iff_exp_le hp]; exact hx i j

/-! ## Matrix products -/

theorem mm_emb (x y : Fin 128 → Fin 128 → ℝ) :
    matmul dot_S128x128_S128x128_S128x128_1_0_0_1_n_n none (emb2 x) (emb2 y) (constant (F := Ideal) S128x128 .f32 0x00000000#32)
      = emb2 (fun i j => ∑ k, x i k * y k j) :=
  ext2 fun i j => by pointwise; simp only [emb2_ix, ← EReal.coe_mul, coe_sum, zero_add]
theorem mmt_emb (x y : Fin 128 → Fin 128 → ℝ) :
    matmul dot_S128x128_S128x128_S128x128_1_1_0_0_n_n none (emb2 x) (emb2 y) (constant (F := Ideal) S128x128 .f32 0x00000000#32)
      = emb2 (fun i j => ∑ k, x i k * y j k) :=
  ext2 fun i j => by pointwise; simp only [emb2_ix, ← EReal.coe_mul, coe_sum, zero_add]
theorem mmh_emb (x : Heads) (y : Fin 128 → Fin 128 → ℝ) :
    matmul dot_S16x128_S128x128_S16x128_1_1_0_0_n_n none (emb2 x) (emb2 y) (constant (F := Ideal) S16x128 .f32 0x00000000#32)
      = emb2 (fun i j => ∑ k, x i k * y j k) :=
  ext2 fun i j => by pointwise; simp only [emb2_ix, ← EReal.coe_mul, coe_sum, zero_add]
theorem mmc_emb (x : Fin 128 → Fin 128 → ℝ) (y : Fin 128 → Fin 16 → ℝ) :
    matmul dot_S128x128_S128x16_S128x16_1_0_0_1_n_n none (emb2 x) (emb2 y) (constant (F := Ideal) S128x16 .f32 0x00000000#32)
      = emb2 (fun i j => ∑ k, x i k * y k j) :=
  ext2 fun i j => by pointwise; simp only [emb2_ix, ← EReal.coe_mul, coe_sum, zero_add]
theorem mmkq_emb (x y : Fin 64 → Fin 128 → ℝ) :
    matmul dot_S64x128_S64x128_S128x128_0_0_1_1_n_n none (emb2 x) (emb2 y) (constant (F := Ideal) S128x128 .f32 0x00000000#32)
      = emb2 (fun i j => ∑ k, x k i * y k j) :=
  ext2 fun i j => by pointwise; simp only [emb2_ix, ← EReal.coe_mul, coe_sum, zero_add]
theorem mmz_emb (x : Fin 64 → Fin 128 → ℝ) (y : Fin 128 → Fin 128 → ℝ) :
    matmul dot_S64x128_S128x128_S64x128_1_0_0_1_n_n none (emb2 x) (emb2 y) (constant (F := Ideal) S64x128 .f32 0x00000000#32)
      = emb2 (fun i j => ∑ k, x i k * y k j) :=
  ext2 fun i j => by pointwise; simp only [emb2_ix, ← EReal.coe_mul, coe_sum, zero_add]
/-- A number for each head, spread over the head's rows. -/
theorem mmp_emb (x : Fin 16 → Fin 1 → ℝ) :
    matmul dot_S16x1_S16x1024_S1x1024_0_0_1_1_n_n none (emb2 x) (emb2 selM) (constant (F := Ideal) S1x1024 .f32 0x00000000#32)
      = emb2 (fun _ i => x (hd i) 0) :=
  ext2 fun u i => by
    pointwise
    simp only [emb2_ix, ← EReal.coe_mul, coe_sum, zero_add]
    have hu : u = 0 := Subsingleton.elim _ _
    subst hu
    congr 1
    rw [Finset.sum_eq_single (hd i)]
    · simp [selM, hd]
    · intro b _ hb
      have : ¬ (i.val / 64 = b.val) := fun hh => hb (Fin.ext hh.symm)
      simp [selM, this]
    · simp

/-- A mean of squares is not negative. -/
theorem segmean_sq (x : Rows) (h : Fin 16) (t : Fin 128) : 0 ≤ segmean (fun i t => x i t * x i t) h t :=
  div_nonneg (Finset.sum_nonneg fun _ _ => mul_self_nonneg _) (by norm_num)

/-! ## Concatenations -/

/-- Eight pairs of heads under each other. -/
theorem concat8_emb (X : Rows) :
    concatenate S1024x128 0 [⟨S128x128, emb2 fun r t => X (prow 0 r) t⟩, ⟨S128x128, emb2 fun r t => X (prow 1 r) t⟩,
      ⟨S128x128, emb2 fun r t => X (prow 2 r) t⟩, ⟨S128x128, emb2 fun r t => X (prow 3 r) t⟩,
      ⟨S128x128, emb2 fun r t => X (prow 4 r) t⟩, ⟨S128x128, emb2 fun r t => X (prow 5 r) t⟩,
      ⟨S128x128, emb2 fun r t => X (prow 6 r) t⟩, ⟨S128x128, emb2 fun r t => X (prow 7 r) t⟩]
      concatenates_S128x128_S128x128_S128x128_S128x128_S128x128_S128x128_S128x128_S128x128_S1024x128_d0 = emb2 X :=
  ext2 fun i t => by
    have := i.isLt
    pointwise
    simp only [emb2_ix]
    split_ifs <;> (congr 2; apply Fin.ext; simp only [prow]; simp; try omega)

/-- Sixteen heads under each other. -/
theorem concat16_emb (X : Rows) :
    concatenate S1024x128 0 [⟨S64x128, emb2 fun r t => X (row 0 r) t⟩, ⟨S64x128, emb2 fun r t => X (row 1 r) t⟩,
      ⟨S64x128, emb2 fun r t => X (row 2 r) t⟩, ⟨S64x128, emb2 fun r t => X (row 3 r) t⟩,
      ⟨S64x128, emb2 fun r t => X (row 4 r) t⟩, ⟨S64x128, emb2 fun r t => X (row 5 r) t⟩,
      ⟨S64x128, emb2 fun r t => X (row 6 r) t⟩, ⟨S64x128, emb2 fun r t => X (row 7 r) t⟩,
      ⟨S64x128, emb2 fun r t => X (row 8 r) t⟩, ⟨S64x128, emb2 fun r t => X (row 9 r) t⟩,
      ⟨S64x128, emb2 fun r t => X (row 10 r) t⟩, ⟨S64x128, emb2 fun r t => X (row 11 r) t⟩,
      ⟨S64x128, emb2 fun r t => X (row 12 r) t⟩, ⟨S64x128, emb2 fun r t => X (row 13 r) t⟩,
      ⟨S64x128, emb2 fun r t => X (row 14 r) t⟩, ⟨S64x128, emb2 fun r t => X (row 15 r) t⟩]
      concatenates_S64x128_S64x128_S64x128_S64x128_S64x128_S64x128_S64x128_S64x128_S64x128_S64x128_S64x128_S64x128_S64x128_S64x128_S64x128_S64x128_S1024x128_d0
      = emb2 X :=
  ext2 fun i t => by
    have e := concatenate_ofFn_apply (t := S1024x128) (s₁ := S64x128) 0 (N := 16)
      (fun n => emb2 fun (r : Fin 64) (t : Fin 128) => X (row n r) t)
      concatenates_S64x128_S64x128_S64x128_S64x128_S64x128_S64x128_S64x128_S64x128_S64x128_S64x128_S64x128_S64x128_S64x128_S64x128_S64x128_S64x128_S1024x128_d0
      rfl 64 rfl (ix2 i t) (hd i) rfl (ix2 ⟨i.val % 64, Nat.mod_lt _ (by decide)⟩ t) rfl (fun b hb => by
        match b with
        | ⟨0, _⟩ => exact absurd rfl hb
        | ⟨1, _⟩ => rfl)
    refine Eq.trans e ?_
    rw [emb2_ix]
    congr 2
    exact Fin.ext (by show (i.val / 64) * 64 + i.val % 64 = i.val; omega)

end Cert.Memory

end
-- ==== Proof.Pay.lean ====
/- The kernel's stored values on finite numbers: the output block and the eight blocks of the state, as the real arrays of
   `Model`. -/
module

public import proofs.«01_k».proof.Proof.Ops

@[expose] public section

noncomputable section

namespace Cert.Memory
open Idealize.ShloMosaic Cert.KernelIdeal Cert.KernelIdeal.Gen
open scoped BigOperators

/-! ## A head, a pair -/

/-- Rows of a pair: cut from `o = 128 p` on. -/
theorem pair_rows (p : Fin 8) (o : ℕ) (ho : o = p.val * 128) (x : Rows) (h : S1024x128.Slices ![o, 0] S128x128) :
    extractStridedSlice S128x128 ![o, 0] (emb2 x) h = emb2 (fun r t => x (prow p r) t) :=
  rows_emb o x (prow p) (fun r => by subst ho; rfl) h

/-- Rows of a head: cut from `o = 64 h` on. -/
theorem head_rows (a : Fin 16) (o : ℕ) (ho : o = a.val * 64) (x : Rows) (h : S1024x128.Slices ![o, 0] S64x128) :
    extractStridedSlice S64x128 ![o, 0] (emb2 x) h = emb2 (fun r t => x (row a r) t) :=
  rows_emb o x (row a) (fun r => by subst ho; rfl) h

/-- A pair's matrix times the pair's rows. -/
theorem pair_op (p : Fin 8) (o : ℕ) (ho : o = p.val * 128) (w : Pairs) (k : Rows) (h : S1024x128.Slices ![o, 0] S128x128) :
    matmul dot_S128x128_S128x128_S128x128_1_0_0_1_n_n none (emb2 (w p)) (extractStridedSlice S128x128 ![o, 0] (emb2 k) h)
        (constant (F := Ideal) S128x128 .f32 0x00000000#32)
      = emb2 (fun r t => pmul w k (prow p r) t) := by
  rw [pair_rows p o ho, mm_emb]
  simp only [pmul, pr_prow, inn_prow]

/-- What the tokens of a head pass on to its later tokens. -/
theorem head_op (a : Fin 16) (o j : ℕ) (ho : o = a.val * 64) (hj : j = a.val) (k q zn : Rows) (cl : Heads) (lev : Fin 128 → Fin 16 → ℝ)
    (h1 h2 h3 : S1024x128.Slices ![o, 0] S64x128) (h4 : S16x128.Slices ![j, 0] S1x128) (h5 : S128x16.Slices ![0, j] S128x1) :
    matmul dot_S64x128_S128x128_S64x128_1_0_0_1_n_n none (extractStridedSlice S64x128 ![o, 0] (emb2 zn) h1)
        (mulf (matmul dot_S64x128_S64x128_S128x128_0_0_1_1_n_n none (extractStridedSlice S64x128 ![o, 0] (emb2 k) h2)
            (extractStridedSlice S64x128 ![o, 0] (emb2 q) h3) (constant (F := Ideal) S128x128 .f32 0x00000000#32))
          (exp (addf (subf (broadcastTo S128x128 (extractStridedSlice S1x128 ![j, 0] (emb2 cl) h4) broadcasts_S1x128_S128x128)
            (broadcastTo S128x128 (extractStridedSlice S128x1 ![0, j] (emb2 lev) h5) broadcasts_S128x1_S128x128)) maskV)))
        (constant (F := Ideal) S64x128 .f32 0x00000000#32)
      = emb2 (fun e t => intra k q zn cl lev (row a e) t) := by
  rw [head_rows a o ho zn, head_rows a o ho k, head_rows a o ho q,
    rows_emb j cl (fun _ => a) (fun r => by have := r.isLt; omega) h4,
    cols_emb j lev (fun _ => a) (fun r => by have := r.isLt; omega) h5,
    brow_emb, bcol_emb, sub_emb, exp_mask, mmkq_emb, mul_emb, mmz_emb]
  simp only [intra, hd_row]

/-- A pair's block of the state after the chunk. -/
theorem upd_op (p : Fin 8) (o : ℕ) (ho : o = p.val * 128) (w : Pairs) (zn b : Rows) (c : Fin 1024 → ℝ) (m : Fin 128 → Fin 128 → ℝ)
    (h1 h2 : S1024x128.Slices ![o, 0] S128x128) (h3 : S1x1024.Slices ![0, o] S1x128) :
    addf (mulf (broadcastTo S128x128 (extractStridedSlice S1x128 ![0, o] (emb2 fun _ => c) h3) broadcasts_S1x128_S128x128) (emb2 (w p)))
        (mulf (matmul dot_S128x128_S128x128_S128x128_1_1_0_0_n_n none (extractStridedSlice S128x128 ![o, 0] (emb2 zn) h1)
          (extractStridedSlice S128x128 ![o, 0] (emb2 b) h2) (constant (F := Ideal) S128x128 .f32 0x00000000#32)) (emb2 m))
      = emb2 (fun r d => c (prow p d) * w p r d + (∑ t, zn (prow p r) t * b (prow p d) t) * m r d) := by
  rw [pair_rows p o ho zn, pair_rows p o ho b, cols_emb o _ (prow p) (fun r => by subst ho; rfl) h3, brow_emb, mmt_emb,
    mul_emb, mul_emb, add_emb]

/-! ## The gates -/

/-- Ones on and below the diagonal. -/
def triM : Fin 128 → Fin 128 → ℝ := fun t s => if s ≤ t then 1 else 0
/-- Ones on the two diagonal blocks of a pair. -/
def blockM : Fin 128 → Fin 128 → ℝ := fun r d => if r.val / 64 = d.val / 64 then 1 else 0

/-- A block of gates, head by head. -/
abbrev gRow (x : Heads) : FVec Ideal S16x1x1x128 .f32 := emb4 fun h (_ _ : Fin 1) t => x h t
/-- A block of gates, token by token. -/
abbrev gCol (x : Heads) : FVec Ideal S1x128x16 .f32 := emb3 fun (_ : Fin 1) t h => x h t

theorem pay36_emb (g : Heads) (hg : ∀ h t, Real.exp (-88) ≤ g h t) :
    k0_pay36 (F := Ideal) (emb2 triM) (gRow g) = emb2 (cum (lg g)) := by
  unfold k0_pay36
  simp only []
  rw [cast_heads g, logmax_emb g hg, mmh_emb]
  rfl

theorem pay38_emb (g : Heads) (hg : ∀ h t, Real.exp (-88) ≤ g h t) :
    k0_pay38 (F := Ideal) (emb2 triM) (gRow g) = emb2 (fun h _ => cum (lg g) h 127) := by
  unfold k0_pay38
  simp only []
  rw [pay36_emb g hg, cols_emb 127 _ (fun _ : Fin 1 => (127 : Fin 128)) (fun r => by have := r.isLt; show 127 = 127 + r.val; omega)]

theorem pay37_emb (g e : Heads) (hg : ∀ h t, Real.exp (-88) ≤ g h t) (he : ∀ h t, Real.exp (-88) ≤ e h t) :
    k0_pay37 (F := Ideal) (emb2 triM) (gCol g) (gCol e) = emb2 (fun s h => cum (lg g) h s - lg e h s) := by
  unfold k0_pay37
  simp only []
  rw [cast_cols (fun t h => g h t), cast_cols (fun t h => e h t), logmax_emb _ (fun t h => hg h t), logmax_emb _ (fun t h => he h t),
    mmc_emb, sub_emb]
  simp only [cum, lg, triM, mul_comm]

theorem pay39_emb (g e : Heads) (hg : ∀ h t, Real.exp (-88) ≤ g h t) (he : ∀ h t, Real.exp (-88) ≤ e h t) :
    k0_pay39 (F := Ideal) (emb2 triM) (gRow g) (gRow e)
      = emb2 (fun h t => Real.exp (cum (lg g) h 127 - cum (lg g) h t + lg e h t)) := by
  unfold k0_pay39
  simp only []
  rw [cast_heads e, logmax_emb e he, pay38_emb g hg, pay36_emb g hg, bhead_emb, sub_emb, add_emb, exp_emb]
  rfl

theorem pay40_emb (g : Heads) (hg : ∀ h t, Real.exp (-88) ≤ g h t) :
    k0_pay40 (F := Ideal) (emb2 triM) (emb2 selM) (gRow g) = emb2 (fun i t => Real.exp (cum (lg g) (hd i) t)) := by
  unfold k0_pay40
  simp only []
  rw [pay36_emb g hg, exp_emb, spread_emb]

/-! ## The gradient -/

theorem pay35_emb (k v : Rows) (w : Pairs) :
    k0_pay35 (F := Ideal) (emb2 k) (emb2 v) (emb2 meanM) (emb2 selM) (emb2 fun r t => pmul w k (prow 0 r) t)
        (emb2 fun r t => pmul w k (prow 1 r) t) (emb2 fun r t => pmul w k (prow 2 r) t) (emb2 fun r t => pmul w k (prow 3 r) t)
        (emb2 (w 4)) (k0_pay34 (emb2 k)) (emb4 fun _ _ : Fin 1 => w 5) (emb4 fun _ _ : Fin 1 => w 6) (emb4 fun _ _ : Fin 1 => w 7)
      = emb2 (zneg k v (pmul w k)) := by
  unfold k0_pay35 k0_pay34
  simp only []
  rw [cast_pair (w 5), cast_pair (w 6), cast_pair (w 7), pair_op 4 512 rfl w k, pair_op 5 640 rfl w k, pair_op 6 768 rfl w k,
    pair_op 7 896 rfl w k, concat8_emb (pmul w k)]
  generalize pmul w k = z
  rw [segmean_emb z, spread_emb, sub_emb, mul_emb, segmean_emb, rsqrt_emb _ (segmean_sq _), spread_emb, mul_emb, add_emb, sub_emb,
    segmean_emb, spread_emb, mul_emb, segmean_emb, spread_emb, mul_emb, add_emb, sub_emb, mul_emb]
  rfl

end Cert.Memory

end
-- ==== Proof.Pay2.lean ====
/- The kernel's stored values on finite numbers, continued: the read-out with its layer norm, and the eight blocks of the
   carried matrices. -/
module

public import proofs.«01_k».proof.Proof.Pay

@[expose] public section

noncomputable section

namespace Cert.Memory
open Idealize.ShloMosaic Cert.KernelIdeal Cert.KernelIdeal.Gen
open scoped BigOperators

/-! ## Pairs' products -/

theorem pay29_emb (k : Rows) (w : Pairs) :
    k0_pay29 (F := Ideal) (emb2 k) (emb4 fun _ _ : Fin 1 => w 0) = emb2 (fun r t => pmul w k (prow 0 r) t) := by
  unfold k0_pay29; simp only []; rw [cast_pair (w 0), pair_op 0 0 rfl w k]
theorem pay30_emb (k : Rows) (w : Pairs) :
    k0_pay30 (F := Ideal) (emb2 k) (emb4 fun _ _ : Fin 1 => w 1) = emb2 (fun r t => pmul w k (prow 1 r) t) := by
  unfold k0_pay30; simp only []; rw [cast_pair (w 1), pair_op 1 128 rfl w k]
theorem pay31_emb (k : Rows) (w : Pairs) :
    k0_pay31 (F := Ideal) (emb2 k) (emb4 fun _ _ : Fin 1 => w 2) = emb2 (fun r t => pmul w k (prow 2 r) t) := by
  unfold k0_pay31; simp only []; rw [cast_pair (w 2), pair_op 2 256 rfl w k]
theorem pay32_emb (k : Rows) (w : Pairs) :
    k0_pay32 (F := Ideal) (emb2 k) (emb4 fun _ _ : Fin 1 => w 3) = emb2 (fun r t => pmul w k (prow 3 r) t) := by
  unfold k0_pay32; simp only []; rw [cast_pair (w 3), pair_op 3 384 rfl w k]
theorem pay33_emb (x : Fin 128 → Fin 128 → ℝ) : k0_pay33 (F := Ideal) (emb4 fun _ _ : Fin 1 => x) = emb2 x := cast_pair x

theorem pay41_emb (q : Rows) (S : Pairs) :
    k0_pay41 (F := Ideal) (emb2 q) (emb3 fun _ : Fin 1 => S 0) = emb2 (fun r t => pmul S q (prow 0 r) t) := by
  unfold k0_pay41; simp only []; rw [cast_state (S 0), pair_op 0 0 rfl S q]

/-- What the carried matrices give the read-out. -/
theorem pay42_emb (q d : Rows) (S : Pairs) :
    k0_pay42 (F := Ideal) (emb2 q) (emb2 d) (emb2 fun r t => pmul S q (prow 0 r) t) (emb3 fun _ : Fin 1 => S 1) (emb3 fun _ : Fin 1 => S 2) (emb3 fun _ : Fin 1 => S 3) (emb3 fun _ : Fin 1 => S 4) (emb3 fun _ : Fin 1 => S 5) (emb3 fun _ : Fin 1 => S 6) (emb3 fun _ : Fin 1 => S 7)
      = emb2 (fun i t => d i t * pmul S q i t) := by
  unfold k0_pay42
  simp only []
  rw [cast_state (S 1), cast_state (S 2), cast_state (S 3), cast_state (S 4), cast_state (S 5), cast_state (S 6), cast_state (S 7),
    pair_op 1 128 rfl S q, pair_op 2 256 rfl S q, pair_op 3 384 rfl S q, pair_op 4 512 rfl S q, pair_op 5 640 rfl S q, pair_op 6 768 rfl S q, pair_op 7 896 rfl S q, concat8_emb (pmul S q), mul_emb]

/-! ## Heads -/

theorem pay45_emb (k q zn : Rows) (cl : Heads) (lev : Fin 128 → Fin 16 → ℝ) :
    k0_pay45 (F := Ideal) maskV (emb2 zn) (emb2 cl) (emb2 lev) (k0_pay43 (emb2 k)) (k0_pay44 (emb2 q)) (constant S128x128 .f32 0#32)
      = emb2 (fun e t => intra k q zn cl lev (row 0 e) t) := by
  unfold k0_pay45 k0_pay43 k0_pay44; simp only []; rw [head_op 0 0 0 rfl rfl k q zn cl lev]
theorem pay46_emb (k q zn : Rows) (cl : Heads) (lev : Fin 128 → Fin 16 → ℝ) :
    k0_pay46 (F := Ideal) (emb2 q) (emb2 k) maskV (emb2 zn) (emb2 cl) (emb2 lev)
      = emb2 (fun e t => intra k q zn cl lev (row 1 e) t) := by
  unfold k0_pay46; simp only []; rw [head_op 1 64 1 rfl rfl k q zn cl lev]
theorem pay47_emb (k q zn : Rows) (cl : Heads) (lev : Fin 128 → Fin 16 → ℝ) :
    k0_pay47 (F := Ideal) (emb2 q) (emb2 k) maskV (emb2 zn) (emb2 cl) (emb2 lev)
      = emb2 (fun e t => intra k q zn cl lev (row 2 e) t) := by
  unfold k0_pay47; simp only []; rw [head_op 2 128 2 rfl rfl k q zn cl lev]
theorem pay48_emb (k q zn : Rows) (cl : Heads) (lev : Fin 128 → Fin 16 → ℝ) :
    k0_pay48 (F := Ideal) (emb2 q) (emb2 k) maskV (emb2 zn) (emb2 cl) (emb2 lev)
      = emb2 (fun e t => intra k q zn cl lev (row 3 e) t) := by
  unfold k0_pay48; simp only []; rw [head_op 3 192 3 rfl rfl k q zn cl lev]
theorem pay51_emb (k q zn : Rows) (cl : Heads) (lev : Fin 128 → Fin 16 → ℝ) :
    k0_pay51 (F := Ideal) maskV (emb2 zn) (emb2 cl) (emb2 lev) (k0_pay49 (emb2 k)) (k0_pay50 (emb2 q)) (constant S128x128 .f32 0#32)
      = emb2 (fun e t => intra k q zn cl lev (row 4 e) t) := by
  unfold k0_pay51 k0_pay49 k0_pay50; simp only []; rw [head_op 4 256 4 rfl rfl k q zn cl lev]
theorem pay52_emb (k q zn : Rows) (cl : Heads) (lev : Fin 128 → Fin 16 → ℝ) :
    k0_pay52 (F := Ideal) (emb2 q) (emb2 k) maskV (emb2 zn) (emb2 cl) (emb2 lev)
      = emb2 (fun e t => intra k q zn cl lev (row 5 e) t) := by
  unfold k0_pay52; simp only []; rw [head_op 5 320 5 rfl rfl k q zn cl lev]
theorem pay53_emb (k q zn : Rows) (cl : Heads) (lev : Fin 128 → Fin 16 → ℝ) :
    k0_pay53 (F := Ideal) (emb2 q) (emb2 k) maskV (emb2 zn) (emb2 cl) (emb2 lev)
      = emb2 (fun e t => intra k q zn cl lev (row 6 e) t) := by
  unfold k0_pay53; simp only []; rw [head_op 6 384 6 rfl rfl k q zn cl lev]
theorem pay54_emb (k q zn : Rows) (cl : Heads) (lev : Fin 128 → Fin 16 → ℝ) :
    k0_pay54 (F := Ideal) (emb2 q) (emb2 k) maskV (emb2 zn) (emb2 cl) (emb2 lev)
      = emb2 (fun e t => intra k q zn cl lev (row 7 e) t) := by
  unfold k0_pay54; simp only []; rw [head_op 7 448 7 rfl rfl k q zn cl lev]
theorem pay57_emb (k q zn : Rows) (cl : Heads) (lev : Fin 128 → Fin 16 → ℝ) :
    k0_pay57 (F := Ideal) maskV (emb2 zn) (emb2 cl) (emb2 lev) (k0_pay55 (emb2 k)) (k0_pay56 (emb2 q)) (constant S128x128 .f32 0#32)
      = emb2 (fun e t => intra k q zn cl lev (row 8 e) t) := by
  unfold k0_pay57 k0_pay55 k0_pay56; simp only []; rw [head_op 8 512 8 rfl rfl k q zn cl lev]
theorem pay58_emb (k q zn : Rows) (cl : Heads) (lev : Fin 128 → Fin 16 → ℝ) :
    k0_pay58 (F := Ideal) (emb2 q) (emb2 k) maskV (emb2 zn) (emb2 cl) (emb2 lev)
      = emb2 (fun e t => intra k q zn cl lev (row 9 e) t) := by
  unfold k0_pay58; simp only []; rw [head_op 9 576 9 rfl rfl k q zn cl lev]
theorem pay59_emb (k q zn : Rows) (cl : Heads) (lev : Fin 128 → Fin 16 → ℝ) :
    k0_pay59 (F := Ideal) (emb2 q) (emb2 k) maskV (emb2 zn) (emb2 cl) (emb2 lev)
      = emb2 (fun e t => intra k q zn cl lev (row 10 e) t) := by
  unfold k0_pay59; simp only []; rw [head_op 10 640 10 rfl rfl k q zn cl lev]
theorem pay60_emb (k q zn : Rows) (cl : Heads) (lev : Fin 128 → Fin 16 → ℝ) :
    k0_pay60 (F := Ideal) (emb2 q) (emb2 k) maskV (emb2 zn) (emb2 cl) (emb2 lev)
      = emb2 (fun e t => intra k q zn cl lev (row 11 e) t) := by
  unfold k0_pay60; simp only []; rw [head_op 11 704 11 rfl rfl k q zn cl lev]

/-- The whole read-out before its layer norm. -/
theorem pay63_emb (k q zn r : Rows) (cl : Heads) (lev : Fin 128 → Fin 16 → ℝ) :
    k0_pay63 (F := Ideal) (emb2 q) (emb2 k) maskV (emb2 zn) (emb2 cl) (emb2 lev) (emb2 r)
        (emb2 fun e t => intra k q zn cl lev (row 0 e) t)
        (emb2 fun e t => intra k q zn cl lev (row 1 e) t)
        (emb2 fun e t => intra k q zn cl lev (row 2 e) t)
        (emb2 fun e t => intra k q zn cl lev (row 3 e) t)
        (emb2 fun e t => intra k q zn cl lev (row 4 e) t)
        (emb2 fun e t => intra k q zn cl lev (row 5 e) t)
        (emb2 fun e t => intra k q zn cl lev (row 6 e) t)
        (emb2 fun e t => intra k q zn cl lev (row 7 e) t)
        (emb2 fun e t => intra k q zn cl lev (row 8 e) t)
        (emb2 fun e t => intra k q zn cl lev (row 9 e) t)
        (emb2 fun e t => intra k q zn cl lev (row 10 e) t)
        (emb2 fun e t => intra k q zn cl lev (row 11 e) t)
        (k0_pay61 (emb2 k)) (k0_pay62 (emb2 q)) (constant S128x128 .f32 0#32)
      = emb2 (fun i t => r i t + intra k q zn cl lev i t) := by
  unfold k0_pay63 k0_pay61 k0_pay62
  simp only []
  rw [head_op 12 768 12 rfl rfl k q zn cl lev, head_op 13 832 13 rfl rfl k q zn cl lev, head_op 14 896 14 rfl rfl k q zn cl lev, head_op 15 960 15 rfl rfl k q zn cl lev,
    concat16_emb (intra k q zn cl lev), add_emb]

/-- The output block: the read-out normalised head by head, plus the query. -/
theorem pay4_emb (q z : Rows) :
    k0_pay4 (F := Ideal) (emb2 q) (emb2 meanM) (emb2 selM) (emb2 z) = emb3 (fun _ : Fin 1 => fun i t => nrm z i t + q i t) := by
  unfold k0_pay4
  simp only []
  rw [segmean_emb z, spread_emb, sub_emb, mul_emb, segmean_emb, rsqrt_emb _ (segmean_sq _), spread_emb, mul_emb, add_emb, cast_out]
  rfl

/-! ## The carried matrices -/

/-- The carried matrices after a chunk, from the decays of the whole chunk and from each token to its end. -/
def updF (k zn : Rows) (c : Fin 16 → ℝ) (b : Heads) (S : Pairs) : Pairs := fun p r d =>
  Real.exp (c (hd (prow p d))) * S p r d + (∑ t, zn (prow p r) t * (b (hd (prow p d)) t * k (prow p d) t)) * blockM r d

theorem pay5_emb (k : Rows) (b : Heads) :
    k0_pay5 (F := Ideal) (emb2 k) (emb2 selM) (emb2 b) = emb2 (fun i t => b (hd i) t * k i t) := by
  unfold k0_pay5; simp only []; rw [spread_emb, mul_emb]

theorem pay6_emb (c : Fin 16 → ℝ) :
    k0_pay6 (F := Ideal) (emb2 selM) (emb2 fun h (_ : Fin 1) => c h) = emb2 (fun _ i => Real.exp (c (hd i))) := by
  unfold k0_pay6; simp only []; rw [exp_emb, mmp_emb]

theorem pay7_emb (k zn : Rows) (c : Fin 16 → ℝ) (b : Heads) (S : Pairs) :
    k0_pay7 (F := Ideal) (emb2 k) (emb2 blockM) (emb2 selM) (emb2 zn) (emb2 fun h (_ : Fin 1) => c h) (emb2 b) (emb3 fun _ : Fin 1 => S 0)
      = emb3 (fun _ : Fin 1 => updF k zn c b S 0) := by
  unfold k0_pay7; simp only []
  rw [pay5_emb, pay6_emb, cast_state (S 0), upd_op 0 0 rfl S, cast_state_out]; rfl
theorem pay8_emb (k zn : Rows) (c : Fin 16 → ℝ) (b : Heads) (S : Pairs) :
    k0_pay8 (F := Ideal) (emb2 k) (emb2 blockM) (emb2 selM) (emb2 zn) (emb2 fun h (_ : Fin 1) => c h) (emb2 b) (emb3 fun _ : Fin 1 => S 1)
      = emb3 (fun _ : Fin 1 => updF k zn c b S 1) := by
  unfold k0_pay8; simp only []
  rw [pay5_emb, pay6_emb, cast_state (S 1), upd_op 1 128 rfl S, cast_state_out]; rfl
theorem pay11_emb (k zn : Rows) (c : Fin 16 → ℝ) (b : Heads) (S : Pairs) :
    k0_pay11 (F := Ideal) (emb2 blockM) (k0_pay9 (emb2 k) (emb2 selM) (emb2 zn) (emb2 b))
        (k0_pay10 (emb2 selM) (emb2 fun h (_ : Fin 1) => c h) (emb3 fun _ : Fin 1 => S 2))
      = emb3 (fun _ : Fin 1 => updF k zn c b S 2) := by
  unfold k0_pay11 k0_pay9 k0_pay10; simp only []
  rw [pay5_emb, pay6_emb, cast_state (S 2), upd_op 2 256 rfl S, cast_state_out]; rfl
theorem pay12_emb (k zn : Rows) (c : Fin 16 → ℝ) (b : Heads) (S : Pairs) :
    k0_pay12 (F := Ideal) (emb2 blockM) (emb2 zn) (emb2 fun i t => b (hd i) t * k i t) (emb2 fun _ i => Real.exp (c (hd i)))
        (emb3 fun _ : Fin 1 => S 3) = emb3 (fun _ : Fin 1 => updF k zn c b S 3) := by
  unfold k0_pay12; simp only []
  rw [cast_state (S 3), upd_op 3 384 rfl S, cast_state_out]; rfl
theorem pay13_emb (k zn : Rows) (c : Fin 16 → ℝ) (b : Heads) (S : Pairs) :
    k0_pay13 (F := Ideal) (emb2 blockM) (emb2 zn) (emb2 fun i t => b (hd i) t * k i t) (emb2 fun _ i => Real.exp (c (hd i)))
        (emb3 fun _ : Fin 1 => S 4) = emb3 (fun _ : Fin 1 => updF k zn c b S 4) := by
  unfold k0_pay13; simp only []
  rw [cast_state (S 4), upd_op 4 512 rfl S, cast_state_out]; rfl
theorem pay2_emb (k zn : Rows) (c : Fin 16 → ℝ) (b : Heads) (S : Pairs) :
    k0_pay2 (F := Ideal) (emb2 blockM) (emb2 zn) (emb2 fun i t => b (hd i) t * k i t) (emb2 fun _ i => Real.exp (c (hd i)))
        (emb3 fun _ : Fin 1 => S 6) = emb3 (fun _ : Fin 1 => updF k zn c b S 6) := by
  unfold k0_pay2; simp only []
  rw [cast_state (S 6), upd_op 6 768 rfl S, cast_state_out]; rfl
theorem pay3_emb (k zn : Rows) (c : Fin 16 → ℝ) (b : Heads) (S : Pairs) :
    k0_pay3 (F := Ideal) (emb2 blockM) (emb2 zn) (emb2 fun i t => b (hd i) t * k i t) (emb2 fun _ i => Real.exp (c (hd i)))
        (emb3 fun _ : Fin 1 => S 7) = emb3 (fun _ : Fin 1 => updF k zn c b S 7) := by
  unfold k0_pay3; simp only []
  rw [cast_state (S 7), upd_op 7 896 rfl S, cast_state_out]; rfl
theorem pay1_emb (k zn : Rows) (c : Fin 16 → ℝ) (b : Heads) (S : Pairs) :
    k0_pay1 (F := Ideal) (emb2 blockM) (k0_pay14 (emb2 zn) (emb2 fun i t => b (hd i) t * k i t))
        (k0_pay15 (emb2 fun _ i => Real.exp (c (hd i)))) (emb3 fun _ : Fin 1 => S 5)
      = emb3 (fun _ : Fin 1 => updF k zn c b S 5) := by
  unfold k0_pay1 k0_pay14 k0_pay15; simp only []
  rw [cast_state (S 5), upd_op 5 640 rfl S, cast_state_out]; rfl

/-- The first chunk starts from the first matrices, as they are. -/
theorem pay16_emb (w : Pairs) : k0_pay16 (F := Ideal) (emb4 fun _ : Fin 1 => w) = emb3 w :=
  ext3 fun p r d => by unfold k0_pay16; pointwise; rw [emb4_ix]

end Cert.Memory

end
-- ==== Proof.Loads.lean ====
/- Loads and stores of one pair's block of the carried matrices. -/
module

public import proofs.«01_k».proof.Proof.Pay2
public import proofs.«01_k».proof.Proof.Gen.KernelIdeal.Frame
public import Idealize.ShloMosaic.Lib.Pipeline.ValueKit.Tiles

@[expose] public section

noncomputable section

namespace Cert.Memory
open Idealize.ShloMosaic Idealize.ShloMosaic.TcCoe Cert.KernelIdeal Cert.KernelIdeal.Gen

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- One pair's block of the carried matrices, loaded. -/
theorem ld_state (p : Fin 8) (b : ℕ) (hb : b = p.val) (S : Pairs) (inb : ∀ a, (![b, 0, 0] : Fin 3 → Nat) a + (![1, 128, 128] : Fin 3 → Nat) a ≤ S8x128x128.size a) :
    View.ld (Val := Elt Ideal) (e' := EltTy.f32) (emb3 S : Vec Ideal S8x128x128 .f32) (Rect.unit (s := S8x128x128) ![b, 0, 0] ![1, 128, 128] inb) = emb3 fun _ : Fin 1 => S p := by
  subst hb
  refine ext3 fun u r d => ?_
  refine (View.ld_unit_apply_of (S := S8x128x128) _ _ _ _ _ (ix3 p r d) fun a => ?_).trans rfl
  have hu : u = 0 := Subsingleton.elim _ _
  subst hu
  match a with
  | ⟨0, _⟩ => rfl
  | ⟨1, _⟩ => exact (Nat.zero_add _).symm
  | ⟨2, _⟩ => exact (Nat.zero_add _).symm

/-- One pair's block of the first matrices, loaded. -/
theorem ld_w (p : Fin 8) (b : ℕ) (hb : b = p.val) (w : Pairs) (inb : ∀ a, (![0, b, 0, 0] : Fin 4 → Nat) a + (![1, 1, 128, 128] : Fin 4 → Nat) a ≤ S1x8x128x128.size a) :
    View.ld (Val := Elt Ideal) (e' := EltTy.f32) (emb4 fun _ : Fin 1 => w : Vec Ideal S1x8x128x128 .f32) (Rect.unit (s := S1x8x128x128) ![0, b, 0, 0] ![1, 1, 128, 128] inb) = emb4 fun _ _ : Fin 1 => w p := by
  subst hb
  refine ext4 fun u v r d => ?_
  refine (View.ld_unit_apply_of (S := S1x8x128x128) _ _ _ _ _ (ix4 0 p r d) fun a => ?_).trans rfl
  have hu : u = 0 := Subsingleton.elim _ _
  have hv : v = 0 := Subsingleton.elim _ _
  subst hu hv
  match a with
  | ⟨0, _⟩ => rfl
  | ⟨1, _⟩ => rfl
  | ⟨2, _⟩ => exact (Nat.zero_add _).symm
  | ⟨3, _⟩ => exact (Nat.zero_add _).symm

/-- A pair's block is not touched by a store to another pair's. -/
theorem readCov_skip {a b : ℕ} (hab : a ≠ b) (v : View sig .tc .vmem S8x128x128 .f32)
    (ia : ∀ x, (![a, 0, 0] : Fin 3 → Nat) x + (![1, 128, 128] : Fin 3 → Nat) x ≤ S8x128x128.size x)
    (ib : ∀ x, (![b, 0, 0] : Fin 3 → Nat) x + (![1, 128, 128] : Fin 3 → Nat) x ≤ S8x128x128.size x)
    (x : (Rect.unit (s := S8x128x128) ![a, 0, 0] ![1, 128, 128] ia).shape.Idx → Elt Ideal .f32)
    (L : List (View.Piece (Elt Ideal) S8x128x128 .f32)) :
    v.readCov ((⟨Rect.unit (s := S8x128x128) ![a, 0, 0] ![1, 128, 128] ia, x⟩ : View.Piece (Elt Ideal) S8x128x128 .f32) :: L)
        (Rect.unit (s := S8x128x128) ![b, 0, 0] ![1, 128, 128] ib).toLoadRect
      = v.readCov L (Rect.unit (s := S8x128x128) ![b, 0, 0] ![1, 128, 128] ib).toLoadRect :=
  View.readCov_cons_of_disjoint v _ L _ (Rect.unit_disjoint (inb := ia) (inb' := ib) 0 (by
    show a + 1 ≤ b ∨ b + 1 ≤ a; omega))

/-- A pair's block of what a store of the whole left. -/
theorem readCov_whole (v : View sig .tc .vmem S8x128x128 .f32) (w : S8x128x128.Idx → Elt Ideal .f32) (b : ℕ)
    (i0 : ∀ x, (![0, 0, 0] : Fin 3 → Nat) x + (![8, 128, 128] : Fin 3 → Nat) x ≤ S8x128x128.size x)
    (ib : ∀ x, (![b, 0, 0] : Fin 3 → Nat) x + (![1, 128, 128] : Fin 3 → Nat) x ≤ S8x128x128.size x) :
    v.readCov [(⟨Rect.unit (s := S8x128x128) ![0, 0, 0] ![8, 128, 128] i0, w⟩ : View.Piece (Elt Ideal) S8x128x128 .f32)]
        (Rect.unit (s := S8x128x128) ![b, 0, 0] ![1, 128, 128] ib).toLoadRect
      = View.ld w (Rect.unit (s := S8x128x128) ![b, 0, 0] ![1, 128, 128] ib) := by
  rw [View.readCov_eq_canon_ld _ _ _ (fun y => ⟨_, List.mem_cons_self, by
    rw [Rect.mem_set_unit]; intro a; rw [z3]; exact ⟨Nat.zero_le _, by rw [Nat.zero_add]; exact (y a).isLt⟩⟩)]
  exact congrArg (fun X => View.ld X _) (View.canon_unit_zero (S := S8x128x128) z3 i0 w)

/-- A store to a pair's block, where it holds an index, has the pair's matrix there. -/
theorem tile_state (p : Fin 8) (b : ℕ) (hb : b = p.val) (S : Pairs) (P : Fin 8) (r d : Fin 128) :
    View.TileAt (Val := Elt Ideal) (S := S8x128x128) (e := EltTy.f32) (ix3 P r d) ![b, 0, 0] ![1, 128, 128] (emb3 fun _ : Fin 1 => S p)
      ((S P r d : ℝ) : EReal) := by
  subst hb
  intro x hx
  have h0 : P.val = p.val + (x 0).val := hx 0
  have h1 : r.val = 0 + (x 1).val := hx 1
  have h2 : d.val = 0 + (x 2).val := hx 2
  have hx0 : (x 0).val < 1 := (x 0).isLt
  show ((S p (x 1) (x 2) : ℝ) : EReal) = _
  have e0 : P = p := Fin.ext (by omega)
  have e1 : r = x 1 := Fin.ext (by omega)
  have e2 : d = x 2 := Fin.ext (by omega)
  rw [e0, e1, e2]

/-- A store to a pair's block over others: read at an index, the pair's matrix where the index is in the pair. -/
theorem canon_cons_state (p : Fin 8) (b : ℕ) (hb : b = p.val) (S : Pairs) (P : Fin 8) (r d : Fin 128)
    (inb : ∀ x, (![b, 0, 0] : Fin 3 → Nat) x + (![1, 128, 128] : Fin 3 → Nat) x ≤ S8x128x128.size x)
    (L : List (View.Piece (Elt Ideal) S8x128x128 .f32)) (hL : P ≠ p → View.canon L (ix3 P r d) = ((S P r d : ℝ) : EReal)) :
    View.canon ((⟨Rect.unit (s := S8x128x128) ![b, 0, 0] ![1, 128, 128] inb, (emb3 fun _ : Fin 1 => S p)⟩ : View.Piece (Elt Ideal) S8x128x128 .f32) :: L)
      (ix3 P r d) = ((S P r d : ℝ) : EReal) := by
  by_cases hm : ix3 P r d ∈ (Rect.unit (s := S8x128x128) ![b, 0, 0] ![1, 128, 128] inb).set
  · obtain ⟨x, hx⟩ := (Rect.unit (s := S8x128x128) ![b, 0, 0] ![1, 128, 128] inb).exists_idx_of_mem hm
    have hx' : (Rect.unit (s := S8x128x128) ![b, 0, 0] ![1, 128, 128] inb).emb x = ix3 P r d := hx
    rw [← hx']
    refine (View.canon_cons_emb (Rect.unit (s := S8x128x128) ![b, 0, 0] ![1, 128, 128] inb) _ L x).trans ?_
    refine tile_state p b hb S P r d x fun a => ?_
    rw [← hx', Rect.emb_apply]
    show ![b, 0, 0] a + 1 * (x a : ℕ) = _
    rw [one_mul]
  · rw [View.canon_cons_of_not_mem (⟨Rect.unit (s := S8x128x128) ![b, 0, 0] ![1, 128, 128] inb, (emb3 fun _ : Fin 1 => S p)⟩ : View.Piece (Elt Ideal) S8x128x128 .f32) L hm]
    refine hL fun hP => hm ?_
    subst hP hb
    rw [Rect.mem_set_unit]
    intro a
    match a with
    | ⟨0, _⟩ => exact ⟨le_refl _, Nat.lt_succ_self _⟩
    | ⟨1, _⟩ => exact ⟨Nat.zero_le _, by show r.val < 0 + 128; have := r.isLt; omega⟩
    | ⟨2, _⟩ => exact ⟨Nat.zero_le _, by show d.val < 0 + 128; have := d.isLt; omega⟩

end Cert.Memory

end
-- ==== Proof.Body.lean ====
/- What one grid point leaves, on finite numbers: the output's block, and the carried matrices, as the real arrays of `Model`,
   in each of the body's cases (the first chunk, the middle ones, the last). -/
module

public import proofs.«01_k».proof.Proof.Loads

@[expose] public section

noncomputable section

namespace Cert.Memory
open Idealize.ShloMosaic Idealize.ShloMosaic.TcCoe Cert.KernelIdeal Cert.KernelIdeal.Gen

/-- The output's rows over a chunk's tokens: the read-out normalised head by head, plus the query. -/
def outR (q k v : Rows) (w : Pairs) (g e : Heads) (S : Pairs) : Rows := fun i t =>
  nrm (zq q k (zneg k v (pmul w k)) g e S) i t + q i t

/-- The last chunk: the output block. -/
theorem out_C (c : Dev nD) (i : grid0.Coords) (arg2 : Memref sig .tc .vmem S16x1x1x128 .f32) (harg2 : arg2.IsWhole) (arg3 : Memref sig .tc .vmem S16x1x1x128 .f32) (harg3 : arg3.IsWhole) (arg4 : Memref sig .tc .vmem S1x128x16 .f32) (harg4 : arg4.IsWhole) (arg5 : Memref sig .tc .vmem S1x128x16 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x8x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x1024x128 .f32) (harg13 : arg13.IsWhole) (arg14 : Memref sig .tc .vmem S8x128x128 .f32) (harg14 : arg14.IsWhole) (hc0 : ¬cond0_0 i) (hc1 : ¬cond0_1 i)
    (q k v : Rows) (w : Pairs) (g e : Heads) (S : Pairs) (hg : ∀ h t, Real.exp (-88) ≤ g h t) (he : ∀ h t, Real.exp (-88) ≤ e h t) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 hc0 hc1
      (gRow g) (gRow e) (gCol g) (gCol e) (emb3 fun _ : Fin 1 => q) (emb3 fun _ : Fin 1 => k) (emb3 fun _ : Fin 1 => v) (emb4 fun _ : Fin 1 => w) (emb2 triM) maskV (emb2 blockM) (emb3 S) = emb3 fun _ : Fin 1 => outR q k v w g e S := by
  unfold out0_C_11
  rw [View.read_writes_eq_canon _ _ _ (cover0_C_11 (F := Ideal) c i arg2 harg2 arg3 harg3 arg4 harg4 arg5 harg5 arg6 harg6 arg7 harg7 arg8 harg8 arg9 harg9 arg10 harg10 arg11 harg11 arg12 harg12 arg13 harg13 arg14 harg14 hc0 hc1
    (gRow g) (gRow e) (gCol g) (gCol e) (emb3 fun _ : Fin 1 => q) (emb3 fun _ : Fin 1 => k) (emb3 fun _ : Fin 1 => v) (emb4 fun _ : Fin 1 => w) (emb2 triM) maskV (emb2 blockM) (emb3 S))]
  unfold kernelRun0_C
  dsimp only
  sl_unfold_words
  rw [View.canon_unit_zero z3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S16x1x1x128) z4, View.ld_unit_zero (S := S1x128x16) z3, View.ld_unit_zero (S := S1x1024x128) z3, View.ld_unit_zero (S := S128x128) z2, View.ld_unit_zero (S := S1x8x128x128) z4]
  simp only [k0_pay17, k0_pay18, k0_pay19, k0_pay20, k0_pay21, k0_pay22, cast_rows, cast_sq, mean_emb, sel_emb, pay16_emb]
  simp only [ld_w 0 0 rfl w, ld_w 1 1 rfl w, ld_w 2 2 rfl w, ld_w 3 3 rfl w, ld_w 4 4 rfl w, ld_w 5 5 rfl w, ld_w 6 6 rfl w, ld_w 7 7 rfl w, ld_state 0 0 rfl S, ld_state 1 1 rfl S, ld_state 2 2 rfl S, ld_state 3 3 rfl S, ld_state 4 4 rfl S, ld_state 5 5 rfl S, ld_state 6 6 rfl S, ld_state 7 7 rfl S]
  simp only [pay29_emb, pay30_emb, pay31_emb, pay32_emb, pay33_emb, pay35_emb, pay36_emb g hg, pay37_emb g e hg he, pay38_emb g hg, pay39_emb g e hg he, pay40_emb g hg]
  simp only [pay41_emb, pay42_emb, pay45_emb, pay46_emb, pay47_emb, pay48_emb, pay51_emb, pay52_emb, pay53_emb, pay54_emb, pay57_emb, pay58_emb, pay59_emb, pay60_emb, pay63_emb, pay4_emb]
  rfl

/-- A middle chunk: the output block. -/
theorem out_B (c : Dev nD) (i : grid0.Coords) (arg2 : Memref sig .tc .vmem S16x1x1x128 .f32) (harg2 : arg2.IsWhole) (arg3 : Memref sig .tc .vmem S16x1x1x128 .f32) (harg3 : arg3.IsWhole) (arg4 : Memref sig .tc .vmem S1x128x16 .f32) (harg4 : arg4.IsWhole) (arg5 : Memref sig .tc .vmem S1x128x16 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x8x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x1024x128 .f32) (harg13 : arg13.IsWhole) (arg14 : Memref sig .tc .vmem S8x128x128 .f32) (harg14 : arg14.IsWhole) (hc0 : ¬cond0_0 i) (hc1 : cond0_1 i)
    (q k v : Rows) (w : Pairs) (g e : Heads) (S : Pairs) (hg : ∀ h t, Real.exp (-88) ≤ g h t) (he : ∀ h t, Real.exp (-88) ≤ e h t) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 hc1
      (gRow g) (gRow e) (gCol g) (gCol e) (emb3 fun _ : Fin 1 => q) (emb3 fun _ : Fin 1 => k) (emb3 fun _ : Fin 1 => v) (emb4 fun _ : Fin 1 => w) (emb2 triM) maskV (emb2 blockM) (emb3 S) = emb3 fun _ : Fin 1 => outR q k v w g e S := by
  unfold out0_B_11
  rw [View.read_writes_eq_canon _ _ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 hc0 hc1
    (gRow g) (gRow e) (gCol g) (gCol e) (emb3 fun _ : Fin 1 => q) (emb3 fun _ : Fin 1 => k) (emb3 fun _ : Fin 1 => v) (emb4 fun _ : Fin 1 => w) (emb2 triM) maskV (emb2 blockM) (emb3 S))]
  unfold kernelRun0_B
  dsimp only
  sl_unfold_words
  rw [View.canon_unit_zero z3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S16x1x1x128) z4, View.ld_unit_zero (S := S1x128x16) z3, View.ld_unit_zero (S := S1x1024x128) z3, View.ld_unit_zero (S := S128x128) z2, View.ld_unit_zero (S := S1x8x128x128) z4]
  simp only [k0_pay17, k0_pay18, k0_pay19, k0_pay20, k0_pay21, k0_pay22, cast_rows, cast_sq, mean_emb, sel_emb, pay16_emb]
  simp only [ld_w 0 0 rfl w, ld_w 1 1 rfl w, ld_w 2 2 rfl w, ld_w 3 3 rfl w, ld_w 4 4 rfl w, ld_w 5 5 rfl w, ld_w 6 6 rfl w, ld_w 7 7 rfl w, ld_state 0 0 rfl S, ld_state 1 1 rfl S, ld_state 2 2 rfl S, ld_state 3 3 rfl S, ld_state 4 4 rfl S, ld_state 5 5 rfl S, ld_state 6 6 rfl S, ld_state 7 7 rfl S]
  simp only [pay29_emb, pay30_emb, pay31_emb, pay32_emb, pay33_emb, pay35_emb, pay36_emb g hg, pay37_emb g e hg he, pay38_emb g hg, pay39_emb g e hg he, pay40_emb g hg]
  simp only [pay41_emb, pay42_emb, pay45_emb, pay46_emb, pay47_emb, pay48_emb, pay51_emb, pay52_emb, pay53_emb, pay54_emb, pay57_emb, pay58_emb, pay59_emb, pay60_emb, pay63_emb, pay4_emb]
  rfl

/-- The first chunk: the output block. -/
theorem out_A (c : Dev nD) (i : grid0.Coords) (arg2 : Memref sig .tc .vmem S16x1x1x128 .f32) (harg2 : arg2.IsWhole) (arg3 : Memref sig .tc .vmem S16x1x1x128 .f32) (harg3 : arg3.IsWhole) (arg4 : Memref sig .tc .vmem S1x128x16 .f32) (harg4 : arg4.IsWhole) (arg5 : Memref sig .tc .vmem S1x128x16 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x8x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x1024x128 .f32) (harg13 : arg13.IsWhole) (arg14 : Memref sig .tc .vmem S8x128x128 .f32) (harg14 : arg14.IsWhole) (hc0 : cond0_0 i) (hc1 : cond0_1 i)
    (q k v : Rows) (w : Pairs) (g e : Heads) (hg : ∀ h t, Real.exp (-88) ≤ g h t) (he : ∀ h t, Real.exp (-88) ≤ e h t) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 hc1
      (gRow g) (gRow e) (gCol g) (gCol e) (emb3 fun _ : Fin 1 => q) (emb3 fun _ : Fin 1 => k) (emb3 fun _ : Fin 1 => v) (emb4 fun _ : Fin 1 => w) (emb2 triM) maskV (emb2 blockM) = emb3 fun _ : Fin 1 => outR q k v w g e w := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 hc0 hc1
    (gRow g) (gRow e) (gCol g) (gCol e) (emb3 fun _ : Fin 1 => q) (emb3 fun _ : Fin 1 => k) (emb3 fun _ : Fin 1 => v) (emb4 fun _ : Fin 1 => w) (emb2 triM) maskV (emb2 blockM))]
  unfold kernelRun0_A
  dsimp only
  sl_unfold_words
  rw [View.canon_unit_zero z3]
  simp (disch := decide) only [↓readCov_skip, readCov_whole]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S16x1x1x128) z4, View.ld_unit_zero (S := S1x128x16) z3, View.ld_unit_zero (S := S1x1024x128) z3, View.ld_unit_zero (S := S128x128) z2, View.ld_unit_zero (S := S1x8x128x128) z4]
  simp only [k0_pay17, k0_pay18, k0_pay19, k0_pay20, k0_pay21, k0_pay22, cast_rows, cast_sq, mean_emb, sel_emb, pay16_emb]
  simp only [ld_w 0 0 rfl w, ld_w 1 1 rfl w, ld_w 2 2 rfl w, ld_w 3 3 rfl w, ld_w 4 4 rfl w, ld_w 5 5 rfl w, ld_w 6 6 rfl w, ld_w 7 7 rfl w, ld_state 0 0 rfl w, ld_state 1 1 rfl w, ld_state 2 2 rfl w, ld_state 3 3 rfl w, ld_state 4 4 rfl w, ld_state 5 5 rfl w, ld_state 6 6 rfl w, ld_state 7 7 rfl w]
  simp only [pay29_emb, pay30_emb, pay31_emb, pay32_emb, pay33_emb, pay35_emb, pay36_emb g hg, pay37_emb g e hg he, pay38_emb g hg, pay39_emb g e hg he, pay40_emb g hg]
  simp only [pay41_emb, pay42_emb, pay45_emb, pay46_emb, pay47_emb, pay48_emb, pay51_emb, pay52_emb, pay53_emb, pay54_emb, pay57_emb, pay58_emb, pay59_emb, pay60_emb, pay63_emb, pay4_emb]
  rfl

/-- A middle chunk: the carried matrices. -/
theorem sout_B (c : Dev nD) (i : grid0.Coords) (arg2 : Memref sig .tc .vmem S16x1x1x128 .f32) (harg2 : arg2.IsWhole) (arg3 : Memref sig .tc .vmem S16x1x1x128 .f32) (harg3 : arg3.IsWhole) (arg4 : Memref sig .tc .vmem S1x128x16 .f32) (harg4 : arg4.IsWhole) (arg5 : Memref sig .tc .vmem S1x128x16 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x8x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x1024x128 .f32) (harg13 : arg13.IsWhole) (arg14 : Memref sig .tc .vmem S8x128x128 .f32) (harg14 : arg14.IsWhole) (hc0 : ¬cond0_0 i) (hc1 : cond0_1 i)
    (q k v : Rows) (w : Pairs) (g e : Heads) (S : Pairs) (hg : ∀ h t, Real.exp (-88) ≤ g h t) (he : ∀ h t, Real.exp (-88) ≤ e h t) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1
      (gRow g) (gRow e) (gCol g) (gCol e) (emb3 fun _ : Fin 1 => q) (emb3 fun _ : Fin 1 => k) (emb3 fun _ : Fin 1 => v) (emb4 fun _ : Fin 1 => w) (emb2 triM) maskV (emb2 blockM) (emb3 S) = emb3 (upd k (zneg k v (pmul w k)) g e S) := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1
    (gRow g) (gRow e) (gCol g) (gCol e) (emb3 fun _ : Fin 1 => q) (emb3 fun _ : Fin 1 => k) (emb3 fun _ : Fin 1 => v) (emb4 fun _ : Fin 1 => w) (emb2 triM) maskV (emb2 blockM) (emb3 S))]
  refine ext3 fun P r d => ?_
  have hc := scover0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1
    (gRow g) (gRow e) (gCol g) (gCol e) (emb3 fun _ : Fin 1 => q) (emb3 fun _ : Fin 1 => k) (emb3 fun _ : Fin 1 => v) (emb4 fun _ : Fin 1 => w) (emb2 triM) maskV (emb2 blockM) (emb3 S) (ix3 P r d)
  refine View.canon_eq_of_allAt _ _ _ hc ?_
  clear hc
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S16x1x1x128) z4, View.ld_unit_zero (S := S1x128x16) z3, View.ld_unit_zero (S := S1x1024x128) z3, View.ld_unit_zero (S := S128x128) z2, View.ld_unit_zero (S := S1x8x128x128) z4]
  simp only [k0_pay17, k0_pay18, k0_pay19, k0_pay20, k0_pay21, k0_pay22, cast_rows, cast_sq, mean_emb, sel_emb, pay16_emb]
  simp only [ld_w 0 0 rfl w, ld_w 1 1 rfl w, ld_w 2 2 rfl w, ld_w 3 3 rfl w, ld_w 4 4 rfl w, ld_w 5 5 rfl w, ld_w 6 6 rfl w, ld_w 7 7 rfl w, ld_state 0 0 rfl S, ld_state 1 1 rfl S, ld_state 2 2 rfl S, ld_state 3 3 rfl S, ld_state 4 4 rfl S, ld_state 5 5 rfl S, ld_state 6 6 rfl S, ld_state 7 7 rfl S]
  simp only [pay29_emb, pay30_emb, pay31_emb, pay32_emb, pay33_emb, pay35_emb, pay36_emb g hg, pay37_emb g e hg he, pay38_emb g hg, pay39_emb g e hg he, pay40_emb g hg]
  simp only [pay5_emb, pay6_emb, pay7_emb, pay8_emb, pay11_emb, pay12_emb k (zneg k v (pmul w k)) (fun h => cum (lg g) h 127) (fun h t => Real.exp (cum (lg g) h 127 - cum (lg g) h t + lg e h t)) S, pay13_emb k (zneg k v (pmul w k)) (fun h => cum (lg g) h 127) (fun h t => Real.exp (cum (lg g) h 127 - cum (lg g) h t + lg e h t)) S, pay1_emb k (zneg k v (pmul w k)) (fun h => cum (lg g) h 127) (fun h t => Real.exp (cum (lg g) h 127 - cum (lg g) h t + lg e h t)) S, pay2_emb k (zneg k v (pmul w k)) (fun h => cum (lg g) h 127) (fun h t => Real.exp (cum (lg g) h 127 - cum (lg g) h t + lg e h t)) S, pay3_emb k (zneg k v (pmul w k)) (fun h => cum (lg g) h 127) (fun h t => Real.exp (cum (lg g) h 127 - cum (lg g) h t + lg e h t)) S]
  refine View.allAt_cons_unit _ _ _ _ _ (tile_state 7 7 rfl _ P r d) (View.allAt_cons_unit _ _ _ _ _ (tile_state 6 6 rfl _ P r d) (View.allAt_cons_unit _ _ _ _ _ (tile_state 5 5 rfl _ P r d) (View.allAt_cons_unit _ _ _ _ _ (tile_state 4 4 rfl _ P r d) (View.allAt_cons_unit _ _ _ _ _ (tile_state 3 3 rfl _ P r d) (View.allAt_cons_unit _ _ _ _ _ (tile_state 2 2 rfl _ P r d) (View.allAt_cons_unit _ _ _ _ _ (tile_state 1 1 rfl _ P r d) (View.allAt_cons_unit _ _ _ _ _ (tile_state 0 0 rfl _ P r d) (View.allAt_nil _ _))))))))

/-- The first chunk: the carried matrices. -/
theorem sout_A (c : Dev nD) (i : grid0.Coords) (arg2 : Memref sig .tc .vmem S16x1x1x128 .f32) (harg2 : arg2.IsWhole) (arg3 : Memref sig .tc .vmem S16x1x1x128 .f32) (harg3 : arg3.IsWhole) (arg4 : Memref sig .tc .vmem S1x128x16 .f32) (harg4 : arg4.IsWhole) (arg5 : Memref sig .tc .vmem S1x128x16 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x8x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x1024x128 .f32) (harg13 : arg13.IsWhole) (arg14 : Memref sig .tc .vmem S8x128x128 .f32) (harg14 : arg14.IsWhole) (hc0 : cond0_0 i) (hc1 : cond0_1 i)
    (q k v : Rows) (w : Pairs) (g e : Heads) (hg : ∀ h t, Real.exp (-88) ≤ g h t) (he : ∀ h t, Real.exp (-88) ≤ e h t) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1
      (gRow g) (gRow e) (gCol g) (gCol e) (emb3 fun _ : Fin 1 => q) (emb3 fun _ : Fin 1 => k) (emb3 fun _ : Fin 1 => v) (emb4 fun _ : Fin 1 => w) (emb2 triM) maskV (emb2 blockM) = emb3 (upd k (zneg k v (pmul w k)) g e w) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1
    (gRow g) (gRow e) (gCol g) (gCol e) (emb3 fun _ : Fin 1 => q) (emb3 fun _ : Fin 1 => k) (emb3 fun _ : Fin 1 => v) (emb4 fun _ : Fin 1 => w) (emb2 triM) maskV (emb2 blockM))]
  refine ext3 fun P r d => ?_
  unfold kernelRun0_A
  dsimp only
  sl_unfold_words
  simp (disch := decide) only [↓readCov_skip, readCov_whole]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S16x1x1x128) z4, View.ld_unit_zero (S := S1x128x16) z3, View.ld_unit_zero (S := S1x1024x128) z3, View.ld_unit_zero (S := S128x128) z2, View.ld_unit_zero (S := S1x8x128x128) z4]
  simp only [k0_pay17, k0_pay18, k0_pay19, k0_pay20, k0_pay21, k0_pay22, cast_rows, cast_sq, mean_emb, sel_emb, pay16_emb]
  simp only [ld_w 0 0 rfl w, ld_w 1 1 rfl w, ld_w 2 2 rfl w, ld_w 3 3 rfl w, ld_w 4 4 rfl w, ld_w 5 5 rfl w, ld_w 6 6 rfl w, ld_w 7 7 rfl w, ld_state 0 0 rfl w, ld_state 1 1 rfl w, ld_state 2 2 rfl w, ld_state 3 3 rfl w, ld_state 4 4 rfl w, ld_state 5 5 rfl w, ld_state 6 6 rfl w, ld_state 7 7 rfl w]
  simp only [pay29_emb, pay30_emb, pay31_emb, pay32_emb, pay33_emb, pay35_emb, pay36_emb g hg, pay37_emb g e hg he, pay38_emb g hg, pay39_emb g e hg he, pay40_emb g hg]
  simp only [pay5_emb, pay6_emb, pay7_emb, pay8_emb, pay11_emb, pay12_emb k (zneg k v (pmul w k)) (fun h => cum (lg g) h 127) (fun h t => Real.exp (cum (lg g) h 127 - cum (lg g) h t + lg e h t)) w, pay13_emb k (zneg k v (pmul w k)) (fun h => cum (lg g) h 127) (fun h t => Real.exp (cum (lg g) h 127 - cum (lg g) h t + lg e h t)) w, pay1_emb k (zneg k v (pmul w k)) (fun h => cum (lg g) h 127) (fun h t => Real.exp (cum (lg g) h 127 - cum (lg g) h t + lg e h t)) w, pay2_emb k (zneg k v (pmul w k)) (fun h => cum (lg g) h 127) (fun h t => Real.exp (cum (lg g) h 127 - cum (lg g) h t + lg e h t)) w, pay3_emb k (zneg k v (pmul w k)) (fun h => cum (lg g) h 127) (fun h t => Real.exp (cum (lg g) h 127 - cum (lg g) h t + lg e h t)) w]
  refine canon_cons_state 7 7 rfl (updF k (zneg k v (pmul w k)) (fun h => cum (lg g) h 127) (fun h t => Real.exp (cum (lg g) h 127 - cum (lg g) h t + lg e h t)) w) P r d _ _ fun h7 => ?_
  refine canon_cons_state 6 6 rfl (updF k (zneg k v (pmul w k)) (fun h => cum (lg g) h 127) (fun h t => Real.exp (cum (lg g) h 127 - cum (lg g) h t + lg e h t)) w) P r d _ _ fun h6 => ?_
  refine canon_cons_state 5 5 rfl (updF k (zneg k v (pmul w k)) (fun h => cum (lg g) h 127) (fun h t => Real.exp (cum (lg g) h 127 - cum (lg g) h t + lg e h t)) w) P r d _ _ fun h5 => ?_
  refine canon_cons_state 4 4 rfl (updF k (zneg k v (pmul w k)) (fun h => cum (lg g) h 127) (fun h t => Real.exp (cum (lg g) h 127 - cum (lg g) h t + lg e h t)) w) P r d _ _ fun h4 => ?_
  refine canon_cons_state 3 3 rfl (updF k (zneg k v (pmul w k)) (fun h => cum (lg g) h 127) (fun h t => Real.exp (cum (lg g) h 127 - cum (lg g) h t + lg e h t)) w) P r d _ _ fun h3 => ?_
  refine canon_cons_state 2 2 rfl (updF k (zneg k v (pmul w k)) (fun h => cum (lg g) h 127) (fun h t => Real.exp (cum (lg g) h 127 - cum (lg g) h t + lg e h t)) w) P r d _ _ fun h2 => ?_
  refine canon_cons_state 1 1 rfl (updF k (zneg k v (pmul w k)) (fun h => cum (lg g) h 127) (fun h t => Real.exp (cum (lg g) h 127 - cum (lg g) h t + lg e h t)) w) P r d _ _ fun h1 => ?_
  refine canon_cons_state 0 0 rfl (updF k (zneg k v (pmul w k)) (fun h => cum (lg g) h 127) (fun h t => Real.exp (cum (lg g) h 127 - cum (lg g) h t + lg e h t)) w) P r d _ _ fun h0 => ?_
  exfalso
  have hP := P.isLt
  simp only [ne_eq, Fin.ext_iff] at h0 h1 h2 h3 h4 h5 h6 h7
  revert h0 h1 h2 h3 h4 h5 h6 h7
  simp only [show ((0 : Fin 8) : ℕ) = 0 from rfl, show ((1 : Fin 8) : ℕ) = 1 from rfl, show ((2 : Fin 8) : ℕ) = 2 from rfl,
    show ((3 : Fin 8) : ℕ) = 3 from rfl, show ((4 : Fin 8) : ℕ) = 4 from rfl, show ((5 : Fin 8) : ℕ) = 5 from rfl,
    show ((6 : Fin 8) : ℕ) = 6 from rfl, show ((7 : Fin 8) : ℕ) = 7 from rfl]
  omega

end Cert.Memory

end
-- ==== Proof.Host.lean ====
/- What the arrays handed to the kernel hold: the host code's layouts of the arguments, and its constant matrices. -/
module

public import proofs.«01_k».proof.Proof.Body
public import proofs.«01_k».proof.Proof.Gen.KernelIdeal.Value
public import Idealize.ShloMosaic.Lib.StableHlo.ReadAt
public import Idealize.ShloMosaic.Lib.StableHlo.RunRead
public import Idealize.ShloMosaic.Lib.WordCmp

@[expose] public section

noncomputable section

namespace Cert.Memory
open Idealize.ShloMosaic Idealize.ShloMosaic.TcCoe Cert.KernelIdeal Cert.KernelIdeal.Gen

/-- Heads by tokens by lanes. -/
abbrev Seqs := Fin 16 → Fin 2048 → Fin 64 → ℝ
/-- A number for each head and token. -/
abbrev Gates := Fin 16 → Fin 2048 → ℝ
/-- One matrix for each head. -/
abbrev Mats := Fin 16 → Fin 64 → Fin 64 → ℝ

/-- The lane of a row within its head. -/
def ln (i : Fin 1024) : Fin 64 := ⟨i.val % 64, Nat.mod_lt _ (by norm_num)⟩
/-- Token `t` of chunk `n`. -/
def tok (n : Fin 16) (t : Fin 128) : Fin 2048 := ⟨n.val * 128 + t.val, by have := n.isLt; have := t.isLt; omega⟩
/-- A chunk's tokens, the heads' lanes as rows. -/
def rowsOf (X : Seqs) (n : Fin 16) : Rows := fun i t => X (hd i) (tok n t) (ln i)
/-- A chunk's numbers for each head. -/
def headsOf (G : Gates) (n : Fin 16) : Heads := fun h t => G h (tok n t)
/-- The place of a pair's row within its head. -/
def ln2 (r : Fin 128) : Fin 64 := ⟨r.val % 64, Nat.mod_lt _ (by norm_num)⟩
/-- The heads' matrices, transposed and two to a pair on the diagonal. -/
def pairsOf (W : Mats) : Pairs := fun p r d => if r.val / 64 = d.val / 64 then W (hd (prow p r)) (ln2 d) (ln2 r) else 0

/-- A comparison's bit as a float. -/
theorem uitofp_bit (p : Prop) [Decidable p] :
    (FloatOps.uitofp (F := Ideal) FTy.f32 (BitVec.ofBool (decide p)) : EReal) = (((if p then 1 else 0 : ℝ)) : EReal) := by
  show ((((BitVec.ofBool (decide p)).toNat : ℝ)) : EReal) = _
  by_cases h : p <;> simp [h]

/-- The two-by-two identity, entry by entry. -/
theorem eye_bit (a b : ℕ) (ha : a < 2) (hb : b < 2) :
    (FloatOps.uitofp (F := Ideal) FTy.f32 (IntOp.cmpi CmpIPredicate.eq (IntOp.addi (BitVec.ofNat 32 a) 0#32) (BitVec.ofNat 32 b)) : EReal)
      = (((if a = b then 1 else 0 : ℝ)) : EReal) := by
  have e1 : IntOp.addi (BitVec.ofNat 32 a) 0#32 = BitVec.ofNat 32 a := by unfold IntOp.addi; rw [BitVec.add_zero]
  rw [e1, WordCmp.cmpi_eq_ofNat (w := 32) (a := a) (b := b) (by omega) (by omega), uitofp_bit]

/-- A number times a zero or a one. -/
theorem masked_cell {x u : EReal} {w : ℝ} {p : Prop} [Decidable p] (hx : x = ((w : ℝ) : EReal))
    (hu : u = ((if p then 1 else 0 : ℝ) : EReal)) : x * u = ((if p then w else 0 : ℝ) : EReal) := by
  rw [hx, hu, ← EReal.coe_mul]
  by_cases h : p
  · rw [if_pos h, if_pos h, mul_one]
  · rw [if_neg h, if_neg h, mul_zero]

/-- The word two, as a number. -/
theorem two_bits : Ideal.ofBits .f32 0x40000000#32 = ((2 : ℝ) : EReal) := by
  have h : Ideal.ofBits .f32 0x40000000#32 = ((8388608 * (2 : ℝ) ^ (-22 : ℤ) : ℝ) : EReal) := by
    simp [Ideal.ofBits, Ideal.ieee]
  rw [h]; congr 1; norm_num

variable (m : (ℓ : Loc nD τ sig) → Buf (Elt Ideal) ℓ) (c : Dev nD)

/-- A sequence argument, its lanes moved in front of its tokens and joined with the heads. -/
theorem seq0 (X : Seqs) (h : m (c, Proc.devRef .tc main_arg0) = emb4 fun _ : Fin 1 => X) :
    V m c main_call0_v1 = emb3 fun (_ : Fin 1) i t => X (hd i) t (ln i) :=
  ext3 fun b i t => by
    unfold V
    after_reads_at
    rw [h]; rfl
/-- The same for the keys. -/
theorem seq1 (X : Seqs) (h : m (c, Proc.devRef .tc main_arg1) = emb4 fun _ : Fin 1 => X) :
    V m c main_call0_v3 = emb3 fun (_ : Fin 1) i t => X (hd i) t (ln i) :=
  ext3 fun b i t => by
    unfold V
    after_reads_at
    rw [h]; rfl
/-- The same for the values. -/
theorem seq2 (X : Seqs) (h : m (c, Proc.devRef .tc main_arg2) = emb4 fun _ : Fin 1 => X) :
    V m c main_call0_v5 = emb3 fun (_ : Fin 1) i t => X (hd i) t (ln i) :=
  ext3 fun b i t => by
    unfold V
    after_reads_at
    rw [h]; rfl

/-- The gates by head, chunk and token. -/
theorem grow (G : Gates) (h : m (c, Proc.devRef .tc main_arg3) = emb3 fun _ : Fin 1 => G) :
    V m c main_call0_v8 = emb4 fun hh n (_ : Fin 1) t => G hh (tok n t) :=
  ext4 fun a b d t => by
    unfold V
    after_reads_at
    rw [h, emb3_ix]; congr 2
/-- Twice the learning rates by head, chunk and token. -/
theorem erow (G : Gates) (h : m (c, Proc.devRef .tc main_arg4) = emb3 fun _ : Fin 1 => G) :
    V m c main_call0_v9 = emb4 fun hh n (_ : Fin 1) t => 2 * G hh (tok n t) :=
  ext4 fun a b d t => by
    unfold V
    after_reads_at
    rw [h, two_bits, emb3_ix, ← EReal.coe_mul]; congr 2
/-- The gates by chunk, token and head. -/
theorem gcol (G : Gates) (h : m (c, Proc.devRef .tc main_arg3) = emb3 fun _ : Fin 1 => G) :
    V m c main_call0_v12 = emb3 fun n t hh => G hh (tok n t) :=
  ext3 fun a b d => by
    unfold V
    after_reads_at
    rw [h, emb3_ix]; congr 2
/-- Twice the learning rates by chunk, token and head. -/
theorem ecol (G : Gates) (h : m (c, Proc.devRef .tc main_arg4) = emb3 fun _ : Fin 1 => G) :
    V m c main_call0_v15 = emb3 fun n t hh => 2 * G hh (tok n t) :=
  ext3 fun a b d => by
    unfold V
    after_reads_at
    rw [h, two_bits, emb3_ix, ← EReal.coe_mul]; congr 2

/-- The initial matrices. -/
theorem wpairs (W : Mats) (h : m (c, Proc.devRef .tc main_arg5) = emb3 W) :
    V m c main_call0_v31 = emb4 fun _ : Fin 1 => pairsOf W :=
  ext4 fun a b r d => by
    unfold V
    after_reads_at
    have hr : r.val / 64 < 2 := by have := r.isLt; omega
    have hd' : d.val / 64 < 2 := by have := d.isLt; omega
    have hh : (⟨b.val * 2 + r.val / 64, by have := b.isLt; omega⟩ : Fin 16) = hd (prow b r) := by
      apply Fin.ext; show b.val * 2 + r.val / 64 = (b.val * 128 + r.val) / 64; omega
    have hw : emb3 W (ix3 (⟨b.val * 2 + r.val / 64, by have := b.isLt; omega⟩ : Fin 16) (ln2 d) (ln2 r))
        = ((W (hd (prow b r)) (ln2 d) (ln2 r) : ℝ) : EReal) :=
      congrArg (fun x : Fin 16 => ((W x (ln2 d) (ln2 r) : ℝ) : EReal)) hh
    exact masked_cell ((congrFun h _).trans hw) (eye_bit _ _ hr hd')

/-- The lower triangle of ones. -/
theorem tri_val : V m c main_call0_v35 = emb2 triM :=
  ext2 fun a b => by
    unfold V
    after_reads_at
    have ha := a.isLt
    have hb := b.isLt
    rw [WordCmp.cmpi_sge_ofNat (by omega) (by omega), uitofp_bit]
    unfold triM
    simp only [Fin.le_def]

/-- The mask. -/
theorem mask_val : V m c main_call0_v38 = maskV := by
  funext i
  have hi : i = ix2 (i 0) (i 1) := by funext d; match d with | ⟨0, _⟩ => rfl | ⟨1, _⟩ => rfl
  rw [hi]
  generalize i 0 = a
  generalize i 1 = b
  unfold V
  after_reads_at
  show select (cmpi CmpIPredicate.sle (iotaInDim S128x128 32 0) (iotaInDim S128x128 32 1))
        (broadcastInDim S128x128 ![] bcast_S_S128x128 (constant (F := Ideal) S_ FTy.f32 0#32))
        (broadcastInDim S128x128 ![] bcast_S_S128x128 (constant S_ FTy.f32 4286578688#32)) (ix2 a b) = _
  pointwise
  have ha : (a : ℕ) < 128 := a.isLt
  have hb : (b : ℕ) < 128 := b.isLt
  rw [WordCmp.cmpi_sle_ofNat (by omega) (by omega)]
  show _ = if a ≤ b then ((0 : ℝ) : EReal) else ⊥
  by_cases h : a ≤ b
  · have : a.val ≤ b.val := h
    simp [Scalar.select, h, this, Ideal.ofBits, Ideal.ieee]
  · have : ¬ a.val ≤ b.val := h
    simp [Scalar.select, h, this, Ideal.ofBits, Ideal.ieee]

/-- The quotient by 64 as the host code finds it: the rounded-down quotient of a number that is not negative. -/
def floorW (a : BitVec 32) : BitVec 32 :=
  Scalar.select
    (IntOp.andi
      (IntOp.cmpi CmpIPredicate.ne (if a = 0 then 0 else if a.msb = true then -1 else 1 : BitVec 32)
        (if (64#32 : BitVec 32) = 0 then 0 else if BitVec.msb (64#32 : BitVec 32) = true then -1 else 1))
      (IntOp.cmpi CmpIPredicate.ne (IntOp.remsi ArithUnit.host a 64#32) 0#32))
    (IntOp.subi (IntOp.divsi ArithUnit.host a 64#32) 1#32)
    (IntOp.divsi ArithUnit.host a 64#32)

theorem floorW_eq : ∀ a : Fin 128, floorW (BitVec.ofNat 32 a.val) = BitVec.ofNat 32 (a.val / 64) := by decide +kernel

/-- The block diagonal of ones. -/
theorem block_val : V m c main_call0_v44 = emb2 blockM :=
  ext2 fun a b => by
    unfold V
    after_reads_at
    show (FloatOps.uitofp (F := Ideal) FTy.f32 (IntOp.cmpi CmpIPredicate.eq (floorW (BitVec.ofNat 32 a.val)) (floorW (BitVec.ofNat 32 b.val))) : EReal) = _
    have ha := a.isLt
    have hb := b.isLt
    rw [floorW_eq, floorW_eq, WordCmp.cmpi_eq_ofNat (by omega) (by omega), uitofp_bit]
    rfl

end Cert.Memory

end
-- ==== Proof.Blocks.lean ====
/- What each of the kernel's grid points is handed: the chunk's blocks of the arrays, and the constant matrices. -/
module

public import proofs.«01_k».proof.Proof.Host

@[expose] public section

noncomputable section

namespace Cert.Memory
open Idealize.ShloMosaic Idealize.ShloMosaic.TcCoe Cert.KernelIdeal Cert.KernelIdeal.Gen

/-- The chunk of a grid point. -/
def chunk (t : Fin cfg0.N) : Fin 16 := ⟨t.val, lt_of_lt_of_eq t.isLt N_0⟩

theorem index_0 : ∀ t : Fin cfg0.N, win0_0.index t (0 : Fin 4) = 0 ∧ win0_0.index t (1 : Fin 4) = t.val ∧ win0_0.index t (2 : Fin 4) = 0 ∧ win0_0.index t (3 : Fin 4) = 0 :=
  (by decide +kernel : ∀ t : Fin grid0.N, _)
theorem index_1 : ∀ t : Fin cfg0.N, win0_1.index t (0 : Fin 4) = 0 ∧ win0_1.index t (1 : Fin 4) = t.val ∧ win0_1.index t (2 : Fin 4) = 0 ∧ win0_1.index t (3 : Fin 4) = 0 :=
  (by decide +kernel : ∀ t : Fin grid0.N, _)
theorem index_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem index_4 : ∀ t : Fin cfg0.N, win0_4.index t (0 : Fin 3) = 0 ∧ win0_4.index t (1 : Fin 3) = 0 ∧ win0_4.index t (2 : Fin 3) = t.val :=
  (by decide +kernel : ∀ t : Fin grid0.N, _)
theorem index_5 : ∀ t : Fin cfg0.N, win0_5.index t (0 : Fin 3) = 0 ∧ win0_5.index t (1 : Fin 3) = 0 ∧ win0_5.index t (2 : Fin 3) = t.val :=
  (by decide +kernel : ∀ t : Fin grid0.N, _)
theorem index_6 : ∀ t : Fin cfg0.N, win0_6.index t (0 : Fin 3) = 0 ∧ win0_6.index t (1 : Fin 3) = 0 ∧ win0_6.index t (2 : Fin 3) = t.val :=
  (by decide +kernel : ∀ t : Fin grid0.N, _)
theorem index_7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)
theorem index_9 : ∀ t : Fin cfg0.N, win0_9.index t (0 : Fin 2) = 0 ∧ win0_9.index t (1 : Fin 2) = 0 :=
  (by decide +kernel : ∀ t : Fin grid0.N, _)
theorem index_10 : ∀ t : Fin cfg0.N, win0_10.index t (0 : Fin 2) = 0 ∧ win0_10.index t (1 : Fin 2) = 0 :=
  (by decide +kernel : ∀ t : Fin grid0.N, _)

variable (m : (ℓ : Loc nD τ sig) → Buf (Elt Ideal) ℓ) (c : Dev nD) (t : Fin cfg0.N)

/-- The block of operand 0 at a point. -/
theorem blk_0 (G : Gates) (h : V m c main_call0_v8 = emb4 fun hh n (_ : Fin 1) s => G hh (tok n s)) : (iblk m c 0 t : Vec Ideal S16x1x1x128 .f32) = gRow (headsOf G (chunk t)) := by
  funext j
  unfold iblk
  rw [View.read_apply]
  show V m c main_call0_v8 _ = _
  refine (congrFun h _).trans ?_
  have hi := index_0 t
  have e0 : ((win0_0.blk t).view.emb j) (0 : Fin 4) = j 0 :=
    Fin.ext (by show win0_0.index t (0 : Fin 4) * 16 + 1 * (j 0).val = (j 0).val; rw [hi.1]; omega)
  have e1 : ((win0_0.blk t).view.emb j) (1 : Fin 4) = chunk t :=
    Fin.ext (by show win0_0.index t (1 : Fin 4) * 1 + 1 * (j 1).val = t.val; rw [hi.2.1]; have hj : (j 1).val < 1 := (j 1).isLt; omega)
  have e2 : ((win0_0.blk t).view.emb j) (2 : Fin 4) = j 2 :=
    Fin.ext (by show win0_0.index t (2 : Fin 4) * 1 + 1 * (j 2).val = (j 2).val; rw [hi.2.2.1]; omega)
  have e3 : ((win0_0.blk t).view.emb j) (3 : Fin 4) = j 3 :=
    Fin.ext (by show win0_0.index t (3 : Fin 4) * 128 + 1 * (j 3).val = (j 3).val; rw [hi.2.2.2]; omega)
  refine congrArg (fun x : ℝ => (x : EReal)) ?_
  exact congrArg₂ G e0 (congrArg₂ tok e1 e3)

/-- The block of operand 1 at a point. -/
theorem blk_1 (G : Gates) (h : V m c main_call0_v9 = emb4 fun hh n (_ : Fin 1) s => G hh (tok n s)) : (iblk m c 1 t : Vec Ideal S16x1x1x128 .f32) = gRow (headsOf G (chunk t)) := by
  funext j
  unfold iblk
  rw [View.read_apply]
  show V m c main_call0_v9 _ = _
  refine (congrFun h _).trans ?_
  have hi := index_1 t
  have e0 : ((win0_1.blk t).view.emb j) (0 : Fin 4) = j 0 :=
    Fin.ext (by show win0_1.index t (0 : Fin 4) * 16 + 1 * (j 0).val = (j 0).val; rw [hi.1]; omega)
  have e1 : ((win0_1.blk t).view.emb j) (1 : Fin 4) = chunk t :=
    Fin.ext (by show win0_1.index t (1 : Fin 4) * 1 + 1 * (j 1).val = t.val; rw [hi.2.1]; have hj : (j 1).val < 1 := (j 1).isLt; omega)
  have e2 : ((win0_1.blk t).view.emb j) (2 : Fin 4) = j 2 :=
    Fin.ext (by show win0_1.index t (2 : Fin 4) * 1 + 1 * (j 2).val = (j 2).val; rw [hi.2.2.1]; omega)
  have e3 : ((win0_1.blk t).view.emb j) (3 : Fin 4) = j 3 :=
    Fin.ext (by show win0_1.index t (3 : Fin 4) * 128 + 1 * (j 3).val = (j 3).val; rw [hi.2.2.2]; omega)
  refine congrArg (fun x : ℝ => (x : EReal)) ?_
  exact congrArg₂ G e0 (congrArg₂ tok e1 e3)

/-- The block of operand 2 at a point. -/
theorem blk_2 (G : Gates) (h : V m c main_call0_v12 = emb3 fun n s hh => G hh (tok n s)) : (iblk m c 2 t : Vec Ideal S1x128x16 .f32) = gCol (headsOf G (chunk t)) := by
  funext j
  unfold iblk
  rw [View.read_apply]
  show V m c main_call0_v12 _ = _
  refine (congrFun h _).trans ?_
  have hi := index_2 t
  have e0 : ((win0_2.blk t).view.emb j) (0 : Fin 3) = chunk t :=
    Fin.ext (by show win0_2.index t (0 : Fin 3) * 1 + 1 * (j 0).val = t.val; rw [hi.1]; have hj : (j 0).val < 1 := (j 0).isLt; omega)
  have e1 : ((win0_2.blk t).view.emb j) (1 : Fin 3) = j 1 :=
    Fin.ext (by show win0_2.index t (1 : Fin 3) * 128 + 1 * (j 1).val = (j 1).val; rw [hi.2.1]; omega)
  have e2 : ((win0_2.blk t).view.emb j) (2 : Fin 3) = j 2 :=
    Fin.ext (by show win0_2.index t (2 : Fin 3) * 16 + 1 * (j 2).val = (j 2).val; rw [hi.2.2]; omega)
  refine congrArg (fun x : ℝ => (x : EReal)) ?_
  exact congrArg₂ G e2 (congrArg₂ tok e0 e1)

/-- The block of operand 3 at a point. -/
theorem blk_3 (G : Gates) (h : V m c main_call0_v15 = emb3 fun n s hh => G hh (tok n s)) : (iblk m c 3 t : Vec Ideal S1x128x16 .f32) = gCol (headsOf G (chunk t)) := by
  funext j
  unfold iblk
  rw [View.read_apply]
  show V m c main_call0_v15 _ = _
  refine (congrFun h _).trans ?_
  have hi := index_3 t
  have e0 : ((win0_3.blk t).view.emb j) (0 : Fin 3) = chunk t :=
    Fin.ext (by show win0_3.index t (0 : Fin 3) * 1 + 1 * (j 0).val = t.val; rw [hi.1]; have hj : (j 0).val < 1 := (j 0).isLt; omega)
  have e1 : ((win0_3.blk t).view.emb j) (1 : Fin 3) = j 1 :=
    Fin.ext (by show win0_3.index t (1 : Fin 3) * 128 + 1 * (j 1).val = (j 1).val; rw [hi.2.1]; omega)
  have e2 : ((win0_3.blk t).view.emb j) (2 : Fin 3) = j 2 :=
    Fin.ext (by show win0_3.index t (2 : Fin 3) * 16 + 1 * (j 2).val = (j 2).val; rw [hi.2.2]; omega)
  refine congrArg (fun x : ℝ => (x : EReal)) ?_
  exact congrArg₂ G e2 (congrArg₂ tok e0 e1)

/-- The block of operand 4 at a point. -/
theorem blk_4 (X : Seqs) (h : V m c main_call0_v1 = emb3 fun (_ : Fin 1) r s => X (hd r) s (ln r)) : (iblk m c 4 t : Vec Ideal S1x1024x128 .f32) = emb3 fun _ : Fin 1 => rowsOf X (chunk t) := by
  funext j
  unfold iblk
  rw [View.read_apply]
  show V m c main_call0_v1 _ = _
  refine (congrFun h _).trans ?_
  have hi := index_4 t
  have e0 : ((win0_4.blk t).view.emb j) (0 : Fin 3) = j 0 :=
    Fin.ext (by show win0_4.index t (0 : Fin 3) * 1 + 1 * (j 0).val = (j 0).val; rw [hi.1]; omega)
  have e1 : ((win0_4.blk t).view.emb j) (1 : Fin 3) = j 1 :=
    Fin.ext (by show win0_4.index t (1 : Fin 3) * 1024 + 1 * (j 1).val = (j 1).val; rw [hi.2.1]; omega)
  have e2 : ((win0_4.blk t).view.emb j) (2 : Fin 3) = tok (chunk t) (j 2) :=
    Fin.ext (by show win0_4.index t (2 : Fin 3) * 128 + 1 * (j 2).val = t.val * 128 + (j 2).val; rw [hi.2.2]; omega)
  refine congrArg (fun x : ℝ => (x : EReal)) ?_
  exact congrArg₂ (fun r s => X (hd r) s (ln r)) e1 e2

/-- The block of operand 5 at a point. -/
theorem blk_5 (X : Seqs) (h : V m c main_call0_v3 = emb3 fun (_ : Fin 1) r s => X (hd r) s (ln r)) : (iblk m c 5 t : Vec Ideal S1x1024x128 .f32) = emb3 fun _ : Fin 1 => rowsOf X (chunk t) := by
  funext j
  unfold iblk
  rw [View.read_apply]
  show V m c main_call0_v3 _ = _
  refine (congrFun h _).trans ?_
  have hi := index_5 t
  have e0 : ((win0_5.blk t).view.emb j) (0 : Fin 3) = j 0 :=
    Fin.ext (by show win0_5.index t (0 : Fin 3) * 1 + 1 * (j 0).val = (j 0).val; rw [hi.1]; omega)
  have e1 : ((win0_5.blk t).view.emb j) (1 : Fin 3) = j 1 :=
    Fin.ext (by show win0_5.index t (1 : Fin 3) * 1024 + 1 * (j 1).val = (j 1).val; rw [hi.2.1]; omega)
  have e2 : ((win0_5.blk t).view.emb j) (2 : Fin 3) = tok (chunk t) (j 2) :=
    Fin.ext (by show win0_5.index t (2 : Fin 3) * 128 + 1 * (j 2).val = t.val * 128 + (j 2).val; rw [hi.2.2]; omega)
  refine congrArg (fun x : ℝ => (x : EReal)) ?_
  exact congrArg₂ (fun r s => X (hd r) s (ln r)) e1 e2

/-- The block of operand 6 at a point. -/
theorem blk_6 (X : Seqs) (h : V m c main_call0_v5 = emb3 fun (_ : Fin 1) r s => X (hd r) s (ln r)) : (iblk m c 6 t : Vec Ideal S1x1024x128 .f32) = emb3 fun _ : Fin 1 => rowsOf X (chunk t) := by
  funext j
  unfold iblk
  rw [View.read_apply]
  show V m c main_call0_v5 _ = _
  refine (congrFun h _).trans ?_
  have hi := index_6 t
  have e0 : ((win0_6.blk t).view.emb j) (0 : Fin 3) = j 0 :=
    Fin.ext (by show win0_6.index t (0 : Fin 3) * 1 + 1 * (j 0).val = (j 0).val; rw [hi.1]; omega)
  have e1 : ((win0_6.blk t).view.emb j) (1 : Fin 3) = j 1 :=
    Fin.ext (by show win0_6.index t (1 : Fin 3) * 1024 + 1 * (j 1).val = (j 1).val; rw [hi.2.1]; omega)
  have e2 : ((win0_6.blk t).view.emb j) (2 : Fin 3) = tok (chunk t) (j 2) :=
    Fin.ext (by show win0_6.index t (2 : Fin 3) * 128 + 1 * (j 2).val = t.val * 128 + (j 2).val; rw [hi.2.2]; omega)
  refine congrArg (fun x : ℝ => (x : EReal)) ?_
  exact congrArg₂ (fun r s => X (hd r) s (ln r)) e1 e2

/-- The block of operand 7 at a point. -/
theorem blk_7 (P : Pairs) (h : V m c main_call0_v31 = emb4 fun _ : Fin 1 => P) : (iblk m c 7 t : Vec Ideal S1x8x128x128 .f32) = emb4 fun _ : Fin 1 => P := by
  funext j
  unfold iblk
  rw [View.read_apply]
  show V m c main_call0_v31 _ = _
  refine (congrFun h _).trans ?_
  have hi := index_7 t
  have e0 : ((win0_7.blk t).view.emb j) (0 : Fin 4) = j 0 :=
    Fin.ext (by show win0_7.index t (0 : Fin 4) * 1 + 1 * (j 0).val = (j 0).val; rw [hi.1]; omega)
  have e1 : ((win0_7.blk t).view.emb j) (1 : Fin 4) = j 1 :=
    Fin.ext (by show win0_7.index t (1 : Fin 4) * 8 + 1 * (j 1).val = (j 1).val; rw [hi.2.1]; omega)
  have e2 : ((win0_7.blk t).view.emb j) (2 : Fin 4) = j 2 :=
    Fin.ext (by show win0_7.index t (2 : Fin 4) * 128 + 1 * (j 2).val = (j 2).val; rw [hi.2.2.1]; omega)
  have e3 : ((win0_7.blk t).view.emb j) (3 : Fin 4) = j 3 :=
    Fin.ext (by show win0_7.index t (3 : Fin 4) * 128 + 1 * (j 3).val = (j 3).val; rw [hi.2.2.2]; omega)
  refine congrArg (fun x : ℝ => (x : EReal)) ?_
  exact congr (congrArg₂ P e1 e2) e3

/-- The block of operand 8 at a point. -/
theorem blk_8 (X : FVec Ideal S128x128 .f32) (h : V m c main_call0_v35 = X) : (iblk m c 8 t : Vec Ideal S128x128 .f32) = X := by
  funext j
  unfold iblk
  rw [View.read_apply]
  show V m c main_call0_v35 _ = _
  refine (congrFun h _).trans ?_
  have hi := index_8 t
  have e0 : ((win0_8.blk t).view.emb j) (0 : Fin 2) = j 0 :=
    Fin.ext (by show win0_8.index t (0 : Fin 2) * 128 + 1 * (j 0).val = (j 0).val; rw [hi.1]; omega)
  have e1 : ((win0_8.blk t).view.emb j) (1 : Fin 2) = j 1 :=
    Fin.ext (by show win0_8.index t (1 : Fin 2) * 128 + 1 * (j 1).val = (j 1).val; rw [hi.2]; omega)
  refine congrArg X ?_
  funext a
  match a with
  | ⟨0, _⟩ => exact e0
  | ⟨1, _⟩ => exact e1

/-- The block of operand 9 at a point. -/
theorem blk_9 (X : FVec Ideal S128x128 .f32) (h : V m c main_call0_v38 = X) : (iblk m c 9 t : Vec Ideal S128x128 .f32) = X := by
  funext j
  unfold iblk
  rw [View.read_apply]
  show V m c main_call0_v38 _ = _
  refine (congrFun h _).trans ?_
  have hi := index_9 t
  have e0 : ((win0_9.blk t).view.emb j) (0 : Fin 2) = j 0 :=
    Fin.ext (by show win0_9.index t (0 : Fin 2) * 128 + 1 * (j 0).val = (j 0).val; rw [hi.1]; omega)
  have e1 : ((win0_9.blk t).view.emb j) (1 : Fin 2) = j 1 :=
    Fin.ext (by show win0_9.index t (1 : Fin 2) * 128 + 1 * (j 1).val = (j 1).val; rw [hi.2]; omega)
  refine congrArg X ?_
  funext a
  match a with
  | ⟨0, _⟩ => exact e0
  | ⟨1, _⟩ => exact e1

/-- The block of operand 10 at a point. -/
theorem blk_10 (X : FVec Ideal S128x128 .f32) (h : V m c main_call0_v44 = X) : (iblk m c 10 t : Vec Ideal S128x128 .f32) = X := by
  funext j
  unfold iblk
  rw [View.read_apply]
  show V m c main_call0_v44 _ = _
  refine (congrFun h _).trans ?_
  have hi := index_10 t
  have e0 : ((win0_10.blk t).view.emb j) (0 : Fin 2) = j 0 :=
    Fin.ext (by show win0_10.index t (0 : Fin 2) * 128 + 1 * (j 0).val = (j 0).val; rw [hi.1]; omega)
  have e1 : ((win0_10.blk t).view.emb j) (1 : Fin 2) = j 1 :=
    Fin.ext (by show win0_10.index t (1 : Fin 2) * 128 + 1 * (j 1).val = (j 1).val; rw [hi.2]; omega)
  refine congrArg X ?_
  funext a
  match a with
  | ⟨0, _⟩ => exact e0
  | ⟨1, _⟩ => exact e1

end Cert.Memory

end
-- ==== Proof.Fold.lean ====
/- The kernel's sixteen chunks in turn: the carried matrices after each, each output block, and the array they fill. -/
module

public import proofs.«01_k».proof.Proof.Blocks

@[expose] public section

noncomputable section

namespace Cert.Memory
open Idealize.ShloMosaic Idealize.ShloMosaic.TcCoe Cert.KernelIdeal Cert.KernelIdeal.Gen Cert.KernelIdeal.Value

/-- A chunk by its number. -/
def ch (n : ℕ) : Fin 16 := ⟨n % 16, Nat.mod_lt _ (by norm_num)⟩

/-- The carried matrices before chunk `n`. -/
def carried (K U : Seqs) (G E : Gates) (W : Mats) : ℕ → Pairs
  | 0 => pairsOf W
  | n + 1 => upd (rowsOf K (ch n)) (zneg (rowsOf K (ch n)) (rowsOf U (ch n)) (pmul (pairsOf W) (rowsOf K (ch n))))
      (headsOf G (ch n)) (headsOf E (ch n)) (carried K U G E W n)

/-- The output's rows over chunk `n`. -/
def outChunk (Q K U : Seqs) (G E : Gates) (W : Mats) (n : ℕ) : Rows :=
  outR (rowsOf Q (ch n)) (rowsOf K (ch n)) (rowsOf U (ch n)) (pairsOf W) (headsOf G (ch n)) (headsOf E (ch n)) (carried K U G E W n)

theorem chunk_eq (t : Fin cfg0.N) : chunk t = ch t.val :=
  Fin.ext (Nat.mod_eq_of_lt (lt_of_lt_of_eq t.isLt N_0)).symm

/-- The launch memory holds the arguments' real values. -/
structure Holds (m : (ℓ : Loc nD τ sig) → Buf (Elt Ideal) ℓ) (c : Dev nD) (Q K U : Seqs) (G E : Gates) (W : Mats) : Prop where
  q : m (c, Proc.devRef .tc main_arg0) = emb4 fun _ : Fin 1 => Q
  k : m (c, Proc.devRef .tc main_arg1) = emb4 fun _ : Fin 1 => K
  v : m (c, Proc.devRef .tc main_arg2) = emb4 fun _ : Fin 1 => U
  g : m (c, Proc.devRef .tc main_arg3) = emb3 fun _ : Fin 1 => G
  e : m (c, Proc.devRef .tc main_arg4) = emb3 fun _ : Fin 1 => E
  w : m (c, Proc.devRef .tc main_arg5) = emb3 W

/-- Twice the learning rates. -/
def twice (E : Gates) : Gates := fun h t => 2 * E h t

theorem twice_ge (E : Gates) (hE : ∀ h t, Real.exp (-88) ≤ E h t) (h t) : Real.exp (-88) ≤ twice E h t := by
  have := hE h t; have := Real.exp_pos (-88); unfold twice; linarith

section
variable (m : (ℓ : Loc nD τ sig) → Buf (Elt Ideal) ℓ) (c : Dev nD) (Q K U : Seqs) (G E : Gates) (W : Mats)
  (H : Holds m c Q K U G E W) (hG : ∀ h t, Real.exp (-88) ≤ G h t) (hE : ∀ h t, Real.exp (-88) ≤ E h t)
include H hG hE

/-- The first chunk. -/
theorem step_A (t : Fin cfg0.N) (acc : Vec Ideal S1x1024x128 .f32 × Vec Ideal S8x128x128 .f32) (h0 : t.val % 16 = 0) (h1 : t.val < 15) :
    stAt0 m c t.val t.isLt acc
      = (emb3 fun _ : Fin 1 => outR (rowsOf Q (chunk t)) (rowsOf K (chunk t)) (rowsOf U (chunk t)) (pairsOf W) (headsOf G (chunk t)) (headsOf (twice E) (chunk t)) (pairsOf W),
         emb3 (upd (rowsOf K (chunk t)) (zneg (rowsOf K (chunk t)) (rowsOf U (chunk t)) (pmul (pairsOf W) (rowsOf K (chunk t))))
      (headsOf G (chunk t)) (headsOf (twice E) (chunk t)) (pairsOf W))) := by
  rw [stAt0_A m c t acc h0 h1]
  rw [blk_0 m c t G (grow m c G H.g), blk_1 m c t (twice E) (erow m c E H.e), blk_2 m c t G (gcol m c G H.g),
    blk_3 m c t (twice E) (ecol m c E H.e), blk_4 m c t Q (seq0 m c Q H.q), blk_5 m c t K (seq1 m c K H.k), blk_6 m c t U (seq2 m c U H.v),
    blk_7 m c t _ (wpairs m c W H.w), blk_8 m c t _ (tri_val m c), blk_9 m c t _ (mask_val m c), blk_10 m c t _ (block_val m c)]
  exact congrArg₂ Prod.mk (out_A _ _ _ _ _ _ _ _ _ _ _ _ _ _ _ _ _ _ _ _ _ _ _ _ _ _ _ _ _ _ _ _ _ _ _ _ (fun h t => hG _ _) (fun h t => twice_ge E hE _ _))
    (sout_A _ _ _ _ _ _ _ _ _ _ _ _ _ _ _ _ _ _ _ _ _ _ _ _ _ _ _ _ _ _ _ _ _ _ _ _ (fun h t => hG _ _) (fun h t => twice_ge E hE _ _))

/-- A later chunk but the last, over the matrices the one before left. -/
theorem step_B (t : Fin cfg0.N) (acc : Vec Ideal S1x1024x128 .f32 × Vec Ideal S8x128x128 .f32) (S : Pairs)
    (hS : acc.2 = emb3 S) (h0 : ¬t.val % 16 = 0) (h1 : t.val < 15) :
    stAt0 m c t.val t.isLt acc
      = (emb3 fun _ : Fin 1 => outR (rowsOf Q (chunk t)) (rowsOf K (chunk t)) (rowsOf U (chunk t)) (pairsOf W) (headsOf G (chunk t)) (headsOf (twice E) (chunk t)) S,
         emb3 (upd (rowsOf K (chunk t)) (zneg (rowsOf K (chunk t)) (rowsOf U (chunk t)) (pmul (pairsOf W) (rowsOf K (chunk t))))
      (headsOf G (chunk t)) (headsOf (twice E) (chunk t)) S)) := by
  rw [stAt0_B m c t acc h0 h1, hS]
  rw [blk_0 m c t G (grow m c G H.g), blk_1 m c t (twice E) (erow m c E H.e), blk_2 m c t G (gcol m c G H.g),
    blk_3 m c t (twice E) (ecol m c E H.e), blk_4 m c t Q (seq0 m c Q H.q), blk_5 m c t K (seq1 m c K H.k), blk_6 m c t U (seq2 m c U H.v),
    blk_7 m c t _ (wpairs m c W H.w), blk_8 m c t _ (tri_val m c), blk_9 m c t _ (mask_val m c), blk_10 m c t _ (block_val m c)]
  exact congrArg₂ Prod.mk (out_B _ _ _ _ _ _ _ _ _ _ _ _ _ _ _ _ _ _ _ _ _ _ _ _ _ _ _ _ _ _ _ _ _ _ _ _ _ (fun h t => hG _ _) (fun h t => twice_ge E hE _ _))
    (sout_B _ _ _ _ _ _ _ _ _ _ _ _ _ _ _ _ _ _ _ _ _ _ _ _ _ _ _ _ _ _ _ _ _ _ _ _ _ (fun h t => hG _ _) (fun h t => twice_ge E hE _ _))

/-- The last chunk: it writes its output block. -/
theorem step_C (t : Fin cfg0.N) (acc : Vec Ideal S1x1024x128 .f32 × Vec Ideal S8x128x128 .f32) (S : Pairs)
    (hS : acc.2 = emb3 S) (h0 : ¬t.val % 16 = 0) (h1 : ¬t.val < 15) :
    (stAt0 m c t.val t.isLt acc).1
      = emb3 fun _ : Fin 1 => outR (rowsOf Q (chunk t)) (rowsOf K (chunk t)) (rowsOf U (chunk t)) (pairsOf W) (headsOf G (chunk t)) (headsOf (twice E) (chunk t)) S := by
  rw [stAt0_C m c t acc h0 h1, hS]
  rw [blk_0 m c t G (grow m c G H.g), blk_1 m c t (twice E) (erow m c E H.e), blk_2 m c t G (gcol m c G H.g),
    blk_3 m c t (twice E) (ecol m c E H.e), blk_4 m c t Q (seq0 m c Q H.q), blk_5 m c t K (seq1 m c K H.k), blk_6 m c t U (seq2 m c U H.v),
    blk_7 m c t _ (wpairs m c W H.w), blk_8 m c t _ (tri_val m c), blk_9 m c t _ (mask_val m c), blk_10 m c t _ (block_val m c)]
  dsimp only
  exact out_C _ _ _ _ _ _ _ _ _ _ _ _ _ _ _ _ _ _ _ _ _ _ _ _ _ _ _ _ _ _ _ _ _ _ _ _ _ (fun h t => hG _ _) (fun h t => twice_ge E hE _ _)

/-- After each chunk: the output block, and (before the last) the carried matrices. -/
theorem fold (n : ℕ) (hn : n < cfg0.N) :
    (outsAt0 m c n hn).1 = emb3 (fun _ : Fin 1 => outChunk Q K U G (twice E) W n)
      ∧ (n < 15 → (outsAt0 m c n hn).2 = emb3 (carried K U G (twice E) W (n + 1))) := by
  have hN : cfg0.N = 16 := N_0
  induction n with
  | zero =>
    have e := (outsAt0_zero m c hn).trans (step_A m c Q K U G E W H hG hE ⟨0, hn⟩ _ (Nat.zero_mod _) (Nat.zero_lt_succ 14))
    rw [chunk_eq] at e
    exact ⟨congrArg Prod.fst e, fun _ => congrArg Prod.snd e⟩
  | succ n ih =>
    have hS := (ih (Nat.lt_of_succ_lt hn)).2 (by omega)
    have h0 : ¬ (n + 1) % 16 = 0 := by omega
    by_cases h1 : n + 1 < 15
    · have e := (outsAt0_succ m c n hn).trans (step_B m c Q K U G E W H hG hE ⟨n + 1, hn⟩ _ _ hS h0 h1)
      rw [chunk_eq] at e
      exact ⟨congrArg Prod.fst e, fun _ => congrArg Prod.snd e⟩
    · have e := (congrArg Prod.fst (outsAt0_succ m c n hn)).trans (step_C m c Q K U G E W H hG hE ⟨n + 1, hn⟩ _ _ hS h0 h1)
      rw [chunk_eq] at e
      exact ⟨e, fun h => absurd h h1⟩

/-- The kernel's array, entry by entry. -/
theorem G11_eq : G11 m c = emb3 fun (_ : Fin 1) i (t : Fin 2048) =>
    outChunk Q K U G (twice E) W (t.val / 128) i ⟨t.val % 128, Nat.mod_lt _ (by norm_num)⟩ := by
  have hN : cfg0.N = 16 := N_0
  refine ext3 fun b i t => ?_
  have hb : (b : ℕ) < 1 := b.isLt
  have hi : (i : ℕ) < 1024 := i.isLt
  have ht : (t : ℕ) < 2048 := t.isLt
  have hp : pt11Of (ix3 b i t) = t.val / 128 := by
    show 16 * ((b : ℕ) / 1 - 0) + 16 * ((i : ℕ) / 1024 - 0) + 1 * ((t : ℕ) / 128 - 0) = _
    omega
  have hlt : pt11Of (ix3 b i t) < cfg0.N := by rw [hp, hN]; omega
  unfold G11
  rw [dif_pos hlt, ← outsAt0_sweep m c _ hlt, (fold m c Q K U G E W H hG hE _ hlt).1]
  refine congrArg (fun x : ℝ => (x : EReal)) ?_
  rw [hp]
  exact congrArg (fun r => outChunk Q K U G (twice E) W (t.val / 128) r _) (Fin.ext (Nat.mod_eq_of_lt hi))

end

end Cert.Memory

end
-- ==== Proof.Range.lean ====
/- What the precondition says of the arguments: finite numbers, gates and learning rates at least the smallest normal number,
   the layer norm's scale one and its shift zero. -/
module

public import proofs.«01_k».proof.Proof.Fold
public import proofs.«01_k».proof.Pre_in_range
public import Idealize.ShloMosaic.Lib.IdealHost

@[expose] public section

noncomputable section

namespace Cert.Memory
open Idealize.ShloMosaic Cert.Pre_in_range

/-- The precondition's shape facts. -/
theorem range_facts : Cert.Pre_in_range.Facts := by
  constructor <;> decide

/-- A one-bit comparison that holds. -/
theorem bit_one (p : Prop) [Decidable p] (h : BitVec.ofBool (decide p) = 1#1) : p := by
  by_contra hp
  simp [hp] at h

/-- Two one-bit comparisons that both hold. -/
theorem both_one (p q : Prop) [Decidable p] [Decidable q] (h : IntOp.andi (BitVec.ofBool (decide p)) (BitVec.ofBool (decide q)) = 1#1) : p ∧ q := by
  by_cases hp : p <;> by_cases hq : q
  · exact ⟨hp, hq⟩
  all_goals exact absurd h (by simp [hp, hq, IntOp.andi])

/-- The literal that stands for infinity. -/
theorem inf_bits : Ideal.ofBits .f32 0x7F800000#32 = (⊤ : EReal) := by
  simp [Ideal.ofBits, Ideal.ieee]
/-- The smallest normal number. -/
theorem tiny_bits : Ideal.ofBits .f32 0x00800000#32 = (((2 : ℝ) ^ (-126 : ℤ) : ℝ) : EReal) := by
  have h : Ideal.ofBits .f32 0x00800000#32 = ((8388608 * (2 : ℝ) ^ (-149 : ℤ) : ℝ) : EReal) := by simp [Ideal.ofBits, Ideal.ieee]
  rw [h]; congr 1; norm_num

/-- A number whose absolute value is below infinity is a real. -/
theorem real_of_abs (x : EReal) (h : max x (-x) < ⊤) : x = (x.toReal : EReal) :=
  (EReal.coe_toReal (fun e => by simp [e] at h) (fun e => by simp [e] at h)).symm

/-- The smallest normal number is positive, and its logarithm is above the kernel's floor of minus 88. -/
theorem tiny_pos : 0 < (2 : ℝ) ^ (-126 : ℤ) := by positivity
theorem exp_le_tiny : Real.exp (-88) ≤ (2 : ℝ) ^ (-126 : ℤ) := by
  have h1 : (9721 / 8192 : ℝ) ≤ Real.exp (11 / 64) := by
    have := Real.quadratic_le_exp_of_nonneg (show (0 : ℝ) ≤ 11 / 64 by norm_num)
    refine le_trans ?_ this
    norm_num
  have h2 : (2 : ℝ) ^ 126 ≤ Real.exp 88 := by
    have h := pow_le_pow_left₀ (by norm_num) h1 512
    rw [← Real.exp_nat_mul] at h
    have e : ((512 : ℕ) : ℝ) * (11 / 64) = 88 := by norm_num
    rw [e] at h
    refine le_trans ?_ h
    have h3 : (98 / 25 : ℝ) ≤ (9721 / 8192) ^ 8 := by norm_num
    have h4 := pow_le_pow_left₀ (by norm_num) h3 64
    rw [← pow_mul] at h4
    exact le_trans (by norm_num) h4
  rw [Real.exp_neg, zpow_neg]
  exact inv_anti₀ (by positivity) (by exact_mod_cast h2)

section
variable [Facts] (a0 a1 a2 : FVec Ideal S1x16x2048x64 .f32) (a3 a4 : FVec Ideal S1x16x2048 .f32) (a5 : FVec Ideal S16x64x64 .f32)
  (a6 a7 : FVec Ideal S16x1x64 .f32)

/-- The real numbers an array of finite numbers holds. -/
def seqOf (a : FVec Ideal S1x16x2048x64 .f32) : Seqs := fun h t e => EReal.toReal (a (ix4 0 h t e))
def gateOf (a : FVec Ideal S1x16x2048 .f32) : Gates := fun h t => EReal.toReal (a (ix3 0 h t))
def matOf (a : FVec Ideal S16x64x64 .f32) : Mats := fun h d e => EReal.toReal (a (ix3 h d e))

theorem seq_holds (a : FVec Ideal S1x16x2048x64 .f32) (h : ∀ i, max (a i) (-(a i)) < (⊤ : EReal)) :
    a = emb4 fun _ : Fin 1 => seqOf a :=
  ext4 fun z i t e => by
    obtain rfl : z = 0 := Subsingleton.elim _ _
    exact real_of_abs _ (h _)

theorem gate_holds (a : FVec Ideal S1x16x2048 .f32) (h : ∀ i, (((2 : ℝ) ^ (-126 : ℤ) : ℝ) : EReal) ≤ a i ∧ a i < (⊤ : EReal)) :
    a = (emb3 fun _ : Fin 1 => gateOf a) ∧ ∀ i t, (2 : ℝ) ^ (-126 : ℤ) ≤ gateOf a i t := by
  have hr : ∀ i, a i = ((a i : EReal).toReal : EReal) := fun i =>
    (EReal.coe_toReal (h i).2.ne (fun e => absurd ((h i).1.trans_eq e) (by simp))).symm
  refine ⟨ext3 fun z i t => ?_, fun i t => ?_⟩
  · obtain rfl : z = 0 := Subsingleton.elim _ _
    exact hr _
  · have := (h (ix3 0 i t)).1
    rw [hr] at this
    exact EReal.coe_le_coe_iff.mp this

theorem mat_holds (a : FVec Ideal S16x64x64 .f32) (h : ∀ i, max (a i) (-(a i)) < (⊤ : EReal)) : a = emb3 (matOf a) :=
  ext3 fun _ _ _ => real_of_abs _ (h _)

variable (H : (fn (F := Ideal) a0 a1 a2 a3 a4 a5 a6 a7).1 = (fun _ => 1#1)
  ∧ (fn (F := Ideal) a0 a1 a2 a3 a4 a5 a6 a7).2.1 = (fun _ => 1#1)
  ∧ (fn (F := Ideal) a0 a1 a2 a3 a4 a5 a6 a7).2.2.1 = (fun _ => 1#1)
  ∧ (fn (F := Ideal) a0 a1 a2 a3 a4 a5 a6 a7).2.2.2.1 = (fun _ => 1#1)
  ∧ (fn (F := Ideal) a0 a1 a2 a3 a4 a5 a6 a7).2.2.2.2.1 = (fun _ => 1#1)
  ∧ (fn (F := Ideal) a0 a1 a2 a3 a4 a5 a6 a7).2.2.2.2.2.1 = (fun _ => 1#1)
  ∧ (fn (F := Ideal) a0 a1 a2 a3 a4 a5 a6 a7).2.2.2.2.2.2.1 = (fun _ => 1#1)
  ∧ (fn (F := Ideal) a0 a1 a2 a3 a4 a5 a6 a7).2.2.2.2.2.2.2 = (fun _ => 1#1))
include H

/-- The queries, keys and values are finite. -/
theorem seqs_in_range : (∀ i, max (a0 i) (-(a0 i)) < (⊤ : EReal)) ∧ (∀ i, max (a1 i) (-(a1 i)) < (⊤ : EReal))
    ∧ (∀ i, max (a2 i) (-(a2 i)) < (⊤ : EReal)) := by
  obtain ⟨h0, h1, h2, -⟩ := H
  refine ⟨fun i => ?_, fun i => ?_, fun i => ?_⟩
  · have := congrFun h0 i
    unfold fn fn_part1 at this
    dsimp only at this
    pointwise at this
    have := bit_one _ this
    rwa [inf_bits] at this
  · have := congrFun h1 i
    unfold fn fn_part1 at this
    dsimp only at this
    pointwise at this
    have := bit_one _ this
    rwa [inf_bits] at this
  · have := congrFun h2 i
    unfold fn fn_part1 at this
    dsimp only at this
    pointwise at this
    have := bit_one _ this
    rwa [inf_bits] at this

/-- The gates and the learning rates are finite and at least the smallest normal number. -/
theorem gates_in_range : (∀ i, (((2 : ℝ) ^ (-126 : ℤ) : ℝ) : EReal) ≤ a3 i ∧ a3 i < (⊤ : EReal))
    ∧ (∀ i, (((2 : ℝ) ^ (-126 : ℤ) : ℝ) : EReal) ≤ a4 i ∧ a4 i < (⊤ : EReal)) := by
  obtain ⟨-, -, -, h3, h4, -⟩ := H
  refine ⟨fun i => ?_, fun i => ?_⟩
  · have := congrFun h3 i
    unfold fn fn_part1 at this
    dsimp only at this
    pointwise at this
    have := both_one _ _ this
    rwa [inf_bits, tiny_bits] at this
  · have := congrFun h4 i
    unfold fn fn_part1 at this
    dsimp only at this
    pointwise at this
    have := both_one _ _ this
    rwa [inf_bits, tiny_bits] at this

/-- The initial state is finite, the layer norm's scale is one and its shift is zero. -/
theorem rest_in_range : (∀ i, max (a5 i) (-(a5 i)) < (⊤ : EReal)) ∧ (∀ i, a6 i = ((1 : ℝ) : EReal)) ∧ (∀ i, a7 i = ((0 : ℝ) : EReal)) := by
  obtain ⟨-, -, -, -, -, h5, h6, h7⟩ := H
  refine ⟨fun i => ?_, fun i => ?_, fun i => ?_⟩
  · have := congrFun h5 i
    unfold fn fn_part1 at this
    dsimp only at this
    pointwise at this
    have := bit_one _ this
    rwa [inf_bits] at this
  · have := congrFun h6 i
    unfold fn fn_part1 at this
    dsimp only at this
    pointwise at this
    exact (bit_one _ this).trans EReal.coe_one.symm
  · have := congrFun h7 i
    unfold fn fn_part1 at this
    dsimp only at this
    pointwise at this
    exact (bit_one _ this).trans EReal.coe_zero.symm
end
end Cert.Memory

end
-- ==== Proof.Spec.lean ====
/- The recurrence over the tokens, on real numbers, and why sixteen chunks of it are the recurrence itself. -/
module

public import proofs.«01_k».proof.Proof.Fold

@[expose] public section

noncomputable section

namespace Cert.Memory
open scoped BigOperators

/-- A head's lanes. -/
abbrev Lanes := Fin 64 → ℝ

/-- The mean of the lanes. -/
def mean (x : Lanes) : ℝ := (∑ e : Fin 64, x e) / 64
/-- The lanes less their mean. -/
def ctr (x : Lanes) : Lanes := fun e => x e - mean x
/-- The standard deviation, with the layer norm's small addition under the root. -/
def sd (x : Lanes) : ℝ := √(mean (fun e => ctr x e * ctr x e) + eps)
/-- The layer norm of the lanes. -/
def hat (x : Lanes) : Lanes := fun e => ctr x e / sd x
/-- The gradient of the squared error of the normalised lanes plus `k` against `v`, with respect to the normalised lanes. -/
def gout (z k v : Lanes) : Lanes := fun e => 2 * (hat z e + k e - v e)
/-- The same gradient with respect to the lanes before the layer norm. -/
def gradv (z k v : Lanes) : Lanes := fun e =>
  (gout z k v e - mean (gout z k v) - hat z e * mean (fun e => gout z k v e * hat z e)) / sd z

/-- The prediction of the initial matrix. -/
def pred0 (K : Seqs) (W : Mats) (h : Fin 16) (t : Fin 2048) : Lanes := fun e => ∑ d : Fin 64, W h d e * K h t d
/-- The gradient at each token. -/
def grad (K U : Seqs) (W : Mats) : Seqs := fun h t => gradv (pred0 K W h t) (K h t) (U h t)
/-- A token by its number. -/
def tk (n : ℕ) : Fin 2048 := ⟨n % 2048, Nat.mod_lt _ (by norm_num)⟩
/-- The matrices after the first `n` tokens. -/
def state (K U : Seqs) (G E : Gates) (W : Mats) : ℕ → Mats
  | 0 => W
  | n + 1 => fun h d e => G h (tk n) * state K U G E W n h d e + (-E h (tk n)) * (K h (tk n) d * grad K U W h (tk n) e)
/-- The read-out at a token. -/
def readout (Q K U : Seqs) (G E : Gates) (W : Mats) : Seqs := fun h t e =>
  ∑ d : Fin 64, Q h t d * state K U G E W (t.val + 1) h d e
/-- The output at a token. -/
def outS (Q K U : Seqs) (G E : Gates) (W : Mats) : Seqs := fun h t e => hat (readout Q K U G E W h t) e + Q h t e

theorem sd_pos (x : Lanes) : 0 < sd x := by
  refine Real.sqrt_pos.2 (add_pos_of_nonneg_of_pos ?_ eps_pos)
  exact div_nonneg (Finset.sum_nonneg fun e _ => mul_self_nonneg _) (by norm_num)

theorem row_hd_ln (i : Fin 1024) : row (hd i) (ln i) = i := Fin.ext (by show i.val / 64 * 64 + i.val % 64 = i.val; omega)
theorem hd_row' (h : Fin 16) (e : Fin 64) : hd (row h e) = h := Fin.ext (by show (h.val * 64 + e.val) / 64 = h.val; omega)
theorem ln_row (h : Fin 16) (e : Fin 64) : ln (row h e) = e := Fin.ext (by show (h.val * 64 + e.val) % 64 = e.val; omega)

/-- The rows' layer norm is the lanes'. -/
theorem nrm_eq (x : Rows) (i : Fin 1024) (t : Fin 128) : nrm x i t = hat (fun e => x (row (hd i) e) t) (ln i) := by
  unfold nrm hat ctr istd sd mean cent ctr
  simp only [hd_row']
  unfold segmean mean
  simp only [hd_row']
  rw [row_hd_ln]
  exact (div_eq_mul_inv _ _).symm

/-- A grid point's gradient, minus one half of the reference's. -/
theorem zneg_eq (k v z : Rows) (i : Fin 1024) (t : Fin 128) :
    gradv (fun e => z (row (hd i) e) t) (fun e => k (row (hd i) e) t) (fun e => v (row (hd i) e) t) (ln i) = -2 * zneg k v z i t := by
  have hr : ∀ e, gout (fun e => z (row (hd i) e) t) (fun e => k (row (hd i) e) t) (fun e => v (row (hd i) e) t) e
      = 2 * resid k v z (row (hd i) e) t := fun e => by
    unfold gout resid; rw [nrm_eq, hd_row', ln_row]
  have hn : ∀ e, hat (fun e => z (row (hd i) e) t) e = nrm z (row (hd i) e) t := fun e => by rw [nrm_eq, hd_row', ln_row]
  have hs : istd z (hd i) t = (sd (fun e => z (row (hd i) e) t))⁻¹ := by
    unfold istd sd mean ctr cent segmean
    simp only [hd_row']
    rfl
  unfold gradv zneg mean
  simp only [hr, hn, hs]
  unfold segmean
  rw [row_hd_ln]
  simp only [mul_assoc, ← Finset.mul_sum]
  rw [div_eq_mul_inv]
  ring

/-- A pair's matrix has its two heads' on the diagonal: its product with the pair's rows is the head's own. -/
theorem pmul_pairs (M : Mats) (X : Seqs) (n : Fin 16) (i : Fin 1024) (t : Fin 128) :
    pmul (pairsOf M) (rowsOf X n) i t = ∑ d : Fin 64, M (hd i) d (ln i) * X (hd i) (tok n t) d := by
  unfold pmul
  symm
  have hi := i.isLt
  refine Finset.sum_of_injOn (fun d : Fin 64 => (⟨(inn i).val / 64 * 64 + d.val, by have := (inn i).isLt; have := d.isLt; omega⟩ : Fin 128))
    ?_ (fun _ _ => Finset.mem_coe.2 (Finset.mem_univ _)) ?_ ?_
  · intro a _ b _ hab
    have := congrArg Fin.val hab
    exact Fin.ext (by simpa using this)
  · intro d _ hd'
    have hne : ¬ (inn i).val / 64 = d.val / 64 := by
      intro h
      refine hd' ⟨ln2 d, Finset.mem_coe.2 (Finset.mem_univ _), Fin.ext ?_⟩
      show (inn i).val / 64 * 64 + d.val % 64 = d.val
      omega
    unfold pairsOf
    rw [if_neg hne, zero_mul]
  · intro d _
    have hd1 := d.isLt
    have e0 : (inn i).val / 64 = ((inn i).val / 64 * 64 + d.val) / 64 := by omega
    have hin : (inn i).val = i.val % 128 := rfl
    unfold pairsOf rowsOf
    rw [if_pos e0]
    have e1 : hd (prow (pr i) (inn i)) = hd i := Fin.ext (by show (i.val / 128 * 128 + i.val % 128) / 64 = i.val / 64; omega)
    have e2 : ln2 (inn i) = ln i := Fin.ext (by show i.val % 128 % 64 = i.val % 64; omega)
    have e3 : ln2 (⟨(inn i).val / 64 * 64 + d.val, by have := (inn i).isLt; omega⟩ : Fin 128) = d :=
      Fin.ext (by show ((inn i).val / 64 * 64 + d.val) % 64 = d.val; omega)
    have e4 : hd (prow (pr i) (⟨(inn i).val / 64 * 64 + d.val, by have := (inn i).isLt; omega⟩ : Fin 128)) = hd i :=
      Fin.ext (by show (i.val / 128 * 128 + (i.val % 128 / 64 * 64 + d.val)) / 64 = i.val / 64; omega)
    have e5 : ln (prow (pr i) (⟨(inn i).val / 64 * 64 + d.val, by have := (inn i).isLt; omega⟩ : Fin 128)) = d :=
      Fin.ext (by show (i.val / 128 * 128 + (i.val % 128 / 64 * 64 + d.val)) % 64 = d.val; omega)
    rw [e1, e2, e3, e4, e5]

/-- A linear recurrence whose decays are exponentials, in closed form. -/
theorem unroll (a x w : ℕ → ℝ) (hw : ∀ j, w (j + 1) = Real.exp (a j) * w j + x j) (j : ℕ) :
    w j = Real.exp (∑ i ∈ Finset.range j, a i) * w 0
      + ∑ s ∈ Finset.range j, Real.exp ((∑ i ∈ Finset.range j, a i) - ∑ i ∈ Finset.range (s + 1), a i) * x s := by
  induction j with
  | zero => simp
  | succ j ih =>
    rw [hw, ih, Finset.sum_range_succ (fun s => Real.exp ((∑ i ∈ Finset.range (j + 1), a i) - ∑ i ∈ Finset.range (s + 1), a i) * x s),
      sub_self, Real.exp_zero, one_mul, mul_add, ← mul_assoc, ← Real.exp_add, Finset.mul_sum, Finset.sum_range_succ a j, add_comm (a j)]
    have hsum : ∑ s ∈ Finset.range j, Real.exp (a j) * (Real.exp ((∑ i ∈ Finset.range j, a i) - ∑ i ∈ Finset.range (s + 1), a i) * x s)
        = ∑ s ∈ Finset.range j, Real.exp ((∑ i ∈ Finset.range j, a i) + a j - ∑ i ∈ Finset.range (s + 1), a i) * x s :=
      Finset.sum_congr rfl fun s _ => by
        rw [← mul_assoc, ← Real.exp_add]
        refine congrArg (fun y => Real.exp y * x s) ?_
        ring
    rw [hsum, add_assoc]

/-- A sum over a chunk's tokens up to one of them. -/
theorem sum_upto (f : ℕ → ℝ) (t : Fin 128) :
    ∑ s : Fin 128, (if s ≤ t then f s.val else 0) = ∑ s ∈ Finset.range (t.val + 1), f s := by
  symm
  rw [← Finset.sum_filter]
  refine Finset.sum_bij' (fun s _ => (⟨s % 128, Nat.mod_lt _ (by norm_num)⟩ : Fin 128)) (fun s _ => s.val) ?_ ?_ ?_ ?_ ?_
  · intro s hs
    have := Finset.mem_range.1 hs
    have ht := t.isLt
    refine Finset.mem_filter.2 ⟨Finset.mem_univ _, ?_⟩
    show s % 128 ≤ t.val
    omega
  · intro s hs
    have : s.val ≤ t.val := (Finset.mem_filter.1 hs).2
    exact Finset.mem_range.2 (by omega)
  · intro s hs
    have := Finset.mem_range.1 hs
    have ht := t.isLt
    show s % 128 = s
    omega
  · intro s _
    exact Fin.ext (Nat.mod_eq_of_lt s.isLt)
  · intro s hs
    have := Finset.mem_range.1 hs
    have ht := t.isLt
    show f s = f (s % 128)
    rw [Nat.mod_eq_of_lt (by omega)]

section
variable (Q K U : Seqs) (G E : Gates) (W : Mats)

/-- A token of a chunk by its number. -/
theorem tok_tk (n : ℕ) (hn : n < 16) (s : Fin 128) : tok (ch n) s = tk (n * 128 + s.val) := by
  have hs := s.isLt
  refine Fin.ext ?_
  show n % 16 * 128 + s.val = (n * 128 + s.val) % 2048
  omega

/-- The running sum of a chunk's logarithms. -/
theorem cum_eq (n : ℕ) (hn : n < 16) (h : Fin 16) (t : Fin 128) :
    cum (lg (headsOf G (ch n))) h t = ∑ i ∈ Finset.range (t.val + 1), Real.log (G h (tk (n * 128 + i))) := by
  rw [← sum_upto (fun i => Real.log (G h (tk (n * 128 + i))))]
  unfold cum lg headsOf
  refine Finset.sum_congr rfl fun s _ => ?_
  rw [tok_tk n hn]
  by_cases hs : s ≤ t
  · rw [if_pos hs, if_pos hs, mul_one]
  · rw [if_neg hs, if_neg hs, mul_zero]

/-- The matrices after a token of a chunk, from those before the chunk. -/
theorem state_chunk (hG : ∀ h t, 0 < G h t) (n : ℕ) (hn : n < 16) (h : Fin 16) (t : Fin 128) (d e : Fin 64) :
    state K U G E W (n * 128 + (t.val + 1)) h d e
      = Real.exp (cum (lg (headsOf G (ch n))) h t) * state K U G E W (n * 128) h d e
        + ∑ s : Fin 128, if s ≤ t then Real.exp (cum (lg (headsOf G (ch n))) h t - cum (lg (headsOf G (ch n))) h s)
            * ((-E h (tok (ch n) s)) * (K h (tok (ch n) s) d * grad K U W h (tok (ch n) s) e)) else 0 := by
  have hu := unroll (fun j => Real.log (G h (tk (n * 128 + j))))
    (fun j => (-E h (tk (n * 128 + j))) * (K h (tk (n * 128 + j)) d * grad K U W h (tk (n * 128 + j)) e))
    (fun j => state K U G E W (n * 128 + j) h d e)
    (fun j => by rw [Real.exp_log (hG _ _)]; rfl) (t.val + 1)
  refine hu.trans ?_
  rw [cum_eq G n hn]
  refine congrArg (HAdd.hAdd _) ((sum_upto _ t).symm.trans (Finset.sum_congr rfl fun s _ => ?_))
  rw [cum_eq G n hn, tok_tk n hn]

/-- The gradients of a chunk, as a grid point computes them. -/
theorem grad_eq (c : Fin 16) (i : Fin 1024) (t : Fin 128) :
    grad K U W (hd i) (tok c t) (ln i) = -2 * zneg (rowsOf K c) (rowsOf U c) (pmul (pairsOf W) (rowsOf K c)) i t := by
  rw [← zneg_eq]
  unfold grad
  have e1 : (fun e => pmul (pairsOf W) (rowsOf K c) (row (hd i) e) t) = pred0 K W (hd i) (tok c t) := by
    funext e; rw [pmul_pairs, hd_row', ln_row]; rfl
  have e2 : ∀ X : Seqs, (fun e => rowsOf X c (row (hd i) e) t) = X (hd i) (tok c t) := fun X => by
    funext e; unfold rowsOf; rw [hd_row', ln_row]
  rw [e1, e2, e2]

/-- The read-out of a chunk, as a grid point computes it. -/
theorem zq_eq (hG : ∀ h t, 0 < G h t) (hE : ∀ h t, 0 < E h t) (n : ℕ) (hn : n < 16) (i : Fin 1024) (t : Fin 128) :
    zq (rowsOf Q (ch n)) (rowsOf K (ch n)) (zneg (rowsOf K (ch n)) (rowsOf U (ch n)) (pmul (pairsOf W) (rowsOf K (ch n))))
        (headsOf G (ch n)) (headsOf (twice E) (ch n)) (pairsOf (state K U G E W (n * 128))) i t
      = readout Q K U G E W (hd i) (tok (ch n) t) (ln i) := by
  have hv : (tok (ch n) t).val + 1 = n * 128 + (t.val + 1) := by
    show n % 16 * 128 + t.val + 1 = _
    omega
  unfold readout zq
  rw [hv]
  simp only [state_chunk K U G E W hG n hn, mul_add, Finset.sum_add_distrib]
  rw [pmul_pairs, Finset.mul_sum]
  refine congrArg₂ (fun x y : ℝ => x + y) (Finset.sum_congr rfl fun d _ => by ring) ?_
  unfold intra
  simp only [Finset.mul_sum]
  rw [Finset.sum_comm]
  refine Finset.sum_congr rfl fun s _ => ?_
  by_cases hs : s ≤ t
  · simp only [if_pos hs]
    rw [Finset.sum_mul, Finset.mul_sum]
    refine Finset.sum_congr rfl fun d _ => ?_
    rw [grad_eq K U W (ch n) i s]
    have hexp : Real.exp (cum (lg (headsOf G (ch n))) (hd i) t
          - (cum (lg (headsOf G (ch n))) (hd i) s - lg (headsOf (twice E) (ch n)) (hd i) s))
        = Real.exp (cum (lg (headsOf G (ch n))) (hd i) t - cum (lg (headsOf G (ch n))) (hd i) s) * (2 * E (hd i) (tok (ch n) s)) := by
      rw [sub_sub_eq_add_sub, add_sub_right_comm, Real.exp_add]
      refine congrArg (HMul.hMul _) ?_
      exact Real.exp_log (mul_pos two_pos (hE _ _))
    rw [hexp]
    unfold rowsOf
    rw [hd_row', ln_row]
    ring
  · simp only [if_neg hs, mul_zero, Finset.sum_const_zero]

/-- The carried matrices after a chunk are the recurrence's. -/
theorem upd_eq (hG : ∀ h t, 0 < G h t) (hE : ∀ h t, 0 < E h t) (n : ℕ) (hn : n < 16) :
    upd (rowsOf K (ch n)) (zneg (rowsOf K (ch n)) (rowsOf U (ch n)) (pmul (pairsOf W) (rowsOf K (ch n))))
        (headsOf G (ch n)) (headsOf (twice E) (ch n)) (pairsOf (state K U G E W (n * 128)))
      = pairsOf (state K U G E W ((n + 1) * 128)) := by
  funext p r d
  unfold upd
  by_cases hrd : r.val / 64 = d.val / 64
  · have e1 : hd (prow p d) = hd (prow p r) := Fin.ext (by show (p.val * 128 + d.val) / 64 = (p.val * 128 + r.val) / 64; omega)
    have e2 : ∀ x : Fin 128, ln (prow p x) = ln2 x := fun x => Fin.ext (by show (p.val * 128 + x.val) % 64 = x.val % 64; omega)
    unfold pairsOf
    rw [if_pos hrd, if_pos hrd, if_pos hrd, mul_one, e1]
    have hs := state_chunk K U G E W hG n hn (hd (prow p r)) 127 (ln2 d) (ln2 r)
    have hidx : n * 128 + ((127 : Fin 128).val + 1) = (n + 1) * 128 := by show n * 128 + (127 + 1) = _; ring
    rw [hidx] at hs
    rw [hs]
    refine congrArg (HAdd.hAdd _) (Finset.sum_congr rfl fun s _ => ?_)
    have hle : s ≤ (127 : Fin 128) := by have := s.isLt; show s.val ≤ 127; omega
    rw [if_pos hle, ← e2 r, grad_eq K U W (ch n) (prow p r) s, Real.exp_add]
    have he : Real.exp (lg (headsOf (twice E) (ch n)) (hd (prow p r)) s) = 2 * E (hd (prow p r)) (tok (ch n) s) :=
      Real.exp_log (mul_pos two_pos (hE _ _))
    have hk : rowsOf K (ch n) (prow p d) s = K (hd (prow p r)) (tok (ch n) s) (ln2 d) := by unfold rowsOf; rw [e1, e2]
    rw [he, hk]
    show zneg (rowsOf K (ch n)) (rowsOf U (ch n)) (pmul (pairsOf W) (rowsOf K (ch n))) (prow p r) s * _ = _
    ring
  · unfold pairsOf
    rw [if_neg hrd, if_neg hrd, if_neg hrd, mul_zero, mul_zero, add_zero]

theorem carried_eq (hG : ∀ h t, 0 < G h t) (hE : ∀ h t, 0 < E h t) (n : ℕ) (hn : n ≤ 16) :
    carried K U G (twice E) W n = pairsOf (state K U G E W (n * 128)) := by
  induction n with
  | zero => rw [Nat.zero_mul]; rfl
  | succ n ih =>
    show upd _ _ _ _ (carried K U G (twice E) W n) = _
    rw [ih (by omega), upd_eq K U G E W hG hE n (by omega)]

/-- What the kernel's array holds is the recurrence's output. -/
theorem outChunk_eq (hG : ∀ h t, 0 < G h t) (hE : ∀ h t, 0 < E h t) (n : ℕ) (hn : n < 16) (i : Fin 1024) (t : Fin 128) :
    outChunk Q K U G (twice E) W n i t = outS Q K U G E W (hd i) (tok (ch n) t) (ln i) := by
  unfold outChunk outR outS
  rw [nrm_eq, carried_eq K U G E W hG hE n hn.le]
  simp only [zq_eq Q K U G E W hG hE n hn, hd_row', ln_row]
  rfl

end

end Cert.Memory

end
-- ==== Proof.Ref.lean ====
/- The reference's operations before and after its loop, on finite numbers. -/
module

public import proofs.«01_k».proof.Proof.Spec
public import proofs.«01_k».proof.Proof.Gen.ReferenceIdeal.Run
public import Idealize.ShloMosaic.Lib.StableHlo.ReadAt
public import Idealize.ShloMosaic.Lib.StableHlo.RunRead
public import Idealize.ShloMosaic.Lib.IdealHost

@[expose] public section

noncomputable section

namespace Cert.Memory
open Idealize.ShloMosaic Idealize.ShloMosaic.TcCoe Cert.ReferenceIdeal Cert.ReferenceIdeal.Gen
open scoped BigOperators

/-- Sequences as an array of the reference. -/
def e4 (x : Seqs) : FVec Ideal S1x16x2048x64 .f32 := emb4 fun _ : Fin 1 => x
/-- A number for each head and token as an array of the reference with one lane. -/
def e1 (x : Gates) : FVec Ideal S1x16x2048x1 .f32 := emb4 fun (_ : Fin 1) h t (_ : Fin 1) => x h t

theorem e4_ix (x : Seqs) (a h t e) : e4 x (ix4 a h t e) = ((x h t e : ℝ) : EReal) := rfl
theorem e1_ix (x : Gates) (a h t e) : e1 x (ix4 a h t e) = ((x h t : ℝ) : EReal) := rfl

/-- The number of lanes. -/
theorem lanes_bits : Ideal.ofBits .f32 0x42800000#32 = ((64 : ℝ) : EReal) := by
  have h : Ideal.ofBits .f32 0x42800000#32 = ((8388608 * (2 : ℝ) ^ (-17 : ℤ) : ℝ) : EReal) := by simp [Ideal.ofBits, Ideal.ieee]
  rw [h]; congr 1; norm_num

/-- The mean over the lanes. -/
def meanV (X : FVec Ideal S1x16x2048x64 .f32) : FVec Ideal S1x16x2048x1 .f32 :=
  Host.divf (broadcastInDim S1x16x2048x1 ![0, 1, 2] bcast_S1x16x2048_S1x16x2048x1_0_1_2
      (Host.reduceAdd X (constant S_ FTy.f32 0x00000000#32) reducesTo_S1x16x2048x64_S1x16x2048_d3 h_S_))
    (broadcastInDim S1x16x2048x1 ![] bcast_S_S1x16x2048x1 (constant S_ FTy.f32 0x42800000#32))
/-- One number for all the lanes. -/
def wide (Y : FVec Ideal S1x16x2048x1 .f32) : FVec Ideal S1x16x2048x64 .f32 :=
  broadcastInDim S1x16x2048x64 ![0, 1, 2, 3] bcast_S1x16x2048x1_S1x16x2048x64_0_1_2_3 Y
/-- A head's lanes for all the tokens. -/
def spread (g : FVec Ideal S1x16x1x64 .f32) : FVec Ideal S1x16x2048x64 .f32 :=
  broadcastInDim S1x16x2048x64 ![0, 1, 2, 3] bcast_S1x16x1x64_S1x16x2048x64_0_1_2_3 g
/-- A parameter of the layer norm with a batch axis put in front. -/
def lift1 (g : FVec Ideal S16x1x64 .f32) : FVec Ideal S1x16x1x64 .f32 :=
  broadcastInDim S1x16x1x64 ![1, 2, 3] bcast_S16x1x64_S1x16x1x64_1_2_3 g
/-- The standard deviation of the lanes. -/
def sdV (X : FVec Ideal S1x16x2048x64 .f32) : FVec Ideal S1x16x2048x1 .f32 :=
  Host.sqrt (addf (meanV (mulf (subf X (wide (meanV X))) (subf X (wide (meanV X)))))
    (broadcastInDim S1x16x2048x1 ![] bcast_S_S1x16x2048x1 (constant S_ FTy.f32 0x358637BD#32)))
/-- The normalised lanes. -/
def hatV (X : FVec Ideal S1x16x2048x64 .f32) : FVec Ideal S1x16x2048x64 .f32 :=
  Host.divf (subf X (wide (meanV X))) (wide (sdV X))
/-- The prediction. -/
def predV (W : FVec Ideal S16x64x64 .f32) (K : FVec Ideal S1x16x2048x64 .f32) : FVec Ideal S1x16x2048x64 .f32 :=
  transpose S1x16x2048x64 [2, 0, 3, 1] (Host.dotGeneral dot_S16x64x64_S1x16x2048x64_S16x64x1x2048_1_3_2_02_0_1 none W K)
    transposes_S16x64x1x2048_S1x16x2048x64_2_0_3_1
/-- The gradient with respect to the normalised lanes. -/
def goutV (g b : FVec Ideal S1x16x1x64 .f32) (Z K U : FVec Ideal S1x16x2048x64 .f32) : FVec Ideal S1x16x2048x64 .f32 :=
  mulf (mulf (broadcastInDim S1x16x2048x64 ![] bcast_S_S1x16x2048x64 (constant S_ FTy.f32 0x40000000#32))
    (subf (addf (addf (mulf (spread g) (hatV Z)) (spread b)) K) U)) (spread g)
/-- The gradient with respect to the lanes before the layer norm. -/
def gradV (g b : FVec Ideal S1x16x1x64 .f32) (Z K U : FVec Ideal S1x16x2048x64 .f32) : FVec Ideal S1x16x2048x64 .f32 :=
  Host.divf (subf (subf (goutV g b Z K U) (wide (meanV (goutV g b Z K U))))
    (mulf (hatV Z) (wide (meanV (mulf (goutV g b Z K U) (hatV Z)))))) (wide (sdV Z))

/-- The layer norm's scale is one. -/
def OneP (g : FVec Ideal S1x16x1x64 .f32) : Prop := ∀ h e, g (ix4 0 h 0 e) = ((1 : ℝ) : EReal)
/-- The layer norm's shift is zero. -/
def ZeroP (g : FVec Ideal S1x16x1x64 .f32) : Prop := ∀ h e, g (ix4 0 h 0 e) = ((0 : ℝ) : EReal)

theorem add4 (x y : Seqs) : addf (e4 x) (e4 y) = e4 fun h t e => x h t e + y h t e :=
  ext4 fun a h t e => by pointwise; rw [e4_ix, e4_ix, EReal.coe_add]
theorem sub4 (x y : Seqs) : subf (e4 x) (e4 y) = e4 fun h t e => x h t e - y h t e :=
  ext4 fun a h t e => by pointwise; rw [e4_ix, e4_ix, EReal.coe_sub]
theorem mul4 (x y : Seqs) : mulf (e4 x) (e4 y) = e4 fun h t e => x h t e * y h t e :=
  ext4 fun a h t e => by pointwise; rw [e4_ix, e4_ix, EReal.coe_mul]
theorem wide_emb (x : Gates) : wide (e1 x) = e4 fun h t _ => x h t :=
  ext4 fun a h t e => by unfold wide; pointwise; rw [e1_ix]
theorem div4 (x : Seqs) (y : Gates) (hy : ∀ h t, 0 < y h t) : Host.divf (e4 x) (wide (e1 y)) = e4 fun h t e => x h t e / y h t :=
  ext4 fun a h t e => by
    unfold wide
    pointwise
    rw [e4_ix, e1_ix, Ideal.div_coe (hy h t).ne', ← EReal.coe_mul, mul_one_div]
theorem mean4 (x : Seqs) : meanV (e4 x) = e1 fun h t => mean (x h t) :=
  ext4 fun a h t e => by
    unfold meanV
    pointwise
    simp only [e4_ix]
    rw [coe_sum, lanes_bits, Ideal.div_coe (by norm_num), ← EReal.coe_mul, mul_one_div]
    rfl
theorem sd_emb (x : Seqs) : sdV (e4 x) = e1 fun h t => sd (x h t) := by
  unfold sdV
  rw [mean4, wide_emb, sub4, mul4, mean4]
  refine ext4 fun a h t e => ?_
  pointwise
  rw [e1_ix, eps_bits, ← EReal.coe_add, Ideal.sqrt_coe, if_neg (not_lt.2 ?_)]
  · rfl
  · refine add_nonneg ?_ eps_pos.le
    exact div_nonneg (Finset.sum_nonneg fun e _ => mul_self_nonneg _) (by norm_num)
/-- The reference's layer norm. -/
theorem hat_emb (x : Seqs) : hatV (e4 x) = e4 fun h t => hat (x h t) := by
  unfold hatV
  rw [mean4, wide_emb, sub4, sd_emb, div4 _ _ fun h t => sd_pos _]
  rfl
theorem pred_emb (W : Mats) (K : Seqs) : predV (emb3 W) (e4 K) = e4 (pred0 K W) :=
  ext4 fun a h t e => by
    unfold predV
    pointwise
    simp only [e4_ix, emb3_ix]
    simp only [← EReal.coe_mul]
    rw [coe_sum]
    rfl
theorem spread_one (g : FVec Ideal S1x16x1x64 .f32) (hg : OneP g) : spread g = e4 fun _ _ _ => 1 :=
  ext4 fun a h t e => by unfold spread; pointwise; exact hg h e
theorem spread_zero (g : FVec Ideal S1x16x1x64 .f32) (hg : ZeroP g) : spread g = e4 fun _ _ _ => 0 :=
  ext4 fun a h t e => by unfold spread; pointwise; exact hg h e
theorem two4 : broadcastInDim S1x16x2048x64 ![] bcast_S_S1x16x2048x64 (constant (F := Ideal) S_ FTy.f32 0x40000000#32) = e4 fun _ _ _ => 2 :=
  ext4 fun a h t e => by pointwise; rw [two_bits]
theorem gout_emb (g b : FVec Ideal S1x16x1x64 .f32) (hg : OneP g) (hb : ZeroP b) (z k u : Seqs) :
    goutV g b (e4 z) (e4 k) (e4 u) = e4 fun h t => gout (z h t) (k h t) (u h t) := by
  unfold goutV
  rw [two4, spread_one g hg, spread_zero b hb, hat_emb, mul4, add4, add4, sub4, mul4, mul4]
  refine congrArg e4 ?_
  funext h t e
  unfold gout
  ring
theorem grad_emb (g b : FVec Ideal S1x16x1x64 .f32) (hg : OneP g) (hb : ZeroP b) (z k u : Seqs) :
    gradV g b (e4 z) (e4 k) (e4 u) = e4 fun h t => gradv (z h t) (k h t) (u h t) := by
  unfold gradV
  rw [gout_emb g b hg hb, hat_emb, mean4, wide_emb, sub4, mul4, mean4, wide_emb, mul4, sub4, sd_emb, div4 _ _ fun h t => sd_pos _]
  rfl

/-- A sequence argument, its tokens first. -/
def tokens (X : Seqs) : FVec Ideal S2048x1x16x64 .f32 := emb4 fun t (_ : Fin 1) h e => X h t e
/-- The same for a number per head and token. -/
def ticks (G : Gates) : FVec Ideal S2048x1x16 .f32 := emb3 fun t (_ : Fin 1) h => G h t

theorem tokens_eq (X : Seqs) : transpose S2048x1x16x64 [2, 0, 1, 3] (e4 X) transposes_S1x16x2048x64_S2048x1x16x64_2_0_1_3 = tokens X :=
  ext4 fun t a h e => by pointwise; rfl
theorem ticks_eq (G : Gates) :
    transpose S2048x1x16 [2, 0, 1] (emb3 fun _ : Fin 1 => G) transposes_S1x16x2048_S2048x1x16_2_0_1 = ticks G :=
  ext3 fun t a h => by pointwise; rfl

section
variable (V : Valuation τ sig (Elt Ideal))
local notation "In" => StableHlo.after hostOps0 V
local notation "Out" => StableHlo.after hostOps0_1 V

theorem in_v0 : In (Proc.devRef .tc main_v0) = lift1 (V (Proc.devRef .tc main_arg6)) := by after_reads_simp; rfl
theorem in_v1 : In (Proc.devRef .tc main_v1) = lift1 (V (Proc.devRef .tc main_arg7)) := by after_reads_simp; rfl
theorem in_0 (Q : Seqs) (h : V (Proc.devRef .tc main_arg0) = e4 Q) : In (Proc.devRef .tc main_v55_0) = tokens Q := by
  after_reads_simp; rw [h]; exact tokens_eq Q
theorem in_1 (K : Seqs) (h : V (Proc.devRef .tc main_arg1) = e4 K) : In (Proc.devRef .tc main_v55_1) = tokens K := by
  after_reads_simp; rw [h]; exact tokens_eq K
theorem in_3 (G : Gates) (h : V (Proc.devRef .tc main_arg3) = emb3 fun _ : Fin 1 => G) : In (Proc.devRef .tc main_v55_3) = ticks G := by
  after_reads_simp; rw [h]; exact ticks_eq G
theorem in_4 (E : Gates) (h : V (Proc.devRef .tc main_arg4) = emb3 fun _ : Fin 1 => E) : In (Proc.devRef .tc main_v55_4) = ticks E := by
  after_reads_simp; rw [h]; exact ticks_eq E
theorem in_6 (W : Mats) (h : V (Proc.devRef .tc main_arg5) = emb3 W) : In (Proc.devRef .tc main_v55_6) = emb4 fun _ : Fin 1 => W :=
  ext4 fun a b d e => by
    after_reads_at
    rw [h]; rfl
theorem in_7 : In (Proc.devRef .tc main_v55_7) = tokens fun _ _ _ => 0 :=
  ext4 fun t a h e => by
    after_reads_at
    show broadcastInDim _ _ _ _ (ix4 t a h e) = _
    pointwise
    exact EReal.coe_zero.symm
/-- The gradients, as the reference's operations spell them. -/
theorem in_2_term : In (Proc.devRef .tc main_v55_2)
    = transpose S2048x1x16x64 [2, 0, 1, 3] (gradV (lift1 (V (Proc.devRef .tc main_arg6))) (lift1 (V (Proc.devRef .tc main_arg7)))
        (predV (V (Proc.devRef .tc main_arg5)) (V (Proc.devRef .tc main_arg1))) (V (Proc.devRef .tc main_arg1)) (V (Proc.devRef .tc main_arg2)))
      transposes_S1x16x2048x64_S2048x1x16x64_2_0_1_3 := by
  after_reads_simp; rfl
theorem in_2 (K U : Seqs) (W : Mats) (hk : V (Proc.devRef .tc main_arg1) = e4 K) (hu : V (Proc.devRef .tc main_arg2) = e4 U)
    (hw : V (Proc.devRef .tc main_arg5) = emb3 W) (hg : OneP (lift1 (V (Proc.devRef .tc main_arg6)))) (hb : ZeroP (lift1 (V (Proc.devRef .tc main_arg7)))) :
    In (Proc.devRef .tc main_v55_2) = tokens (grad K U W) := by
  rw [in_2_term, hk, hu, hw, pred_emb, grad_emb _ _ hg hb, tokens_eq]
  rfl

/-- The result, as the reference's operations spell it. -/
theorem out_term : Out (Proc.devRef .tc main_v81)
    = shapeCast S1x1024x2048 (transpose S1x16x64x2048 [0, 1, 3, 2]
        (addf (addf (mulf (spread (V (Proc.devRef .tc main_v0)))
          (hatV (transpose S1x16x2048x64 [1, 2, 0, 3] (V (Proc.devRef .tc main_v55_7)) transposes_S2048x1x16x64_S1x16x2048x64_1_2_0_3)))
          (spread (V (Proc.devRef .tc main_v1)))) (V (Proc.devRef .tc main_arg0)))
        transposes_S1x16x2048x64_S1x16x64x2048_0_1_3_2) shapeCasts_S1x16x64x2048_S1x1024x2048 := by
  after_reads_simp; rfl
theorem out_81 (Q R : Seqs) (hq : V (Proc.devRef .tc main_arg0) = e4 Q) (hr : V (Proc.devRef .tc main_v55_7) = tokens R)
    (hg : OneP (V (Proc.devRef .tc main_v0))) (hb : ZeroP (V (Proc.devRef .tc main_v1))) :
    Out (Proc.devRef .tc main_v81) = emb3 fun (_ : Fin 1) i t => hat (R (hd i) t) (ln i) + Q (hd i) t (ln i) := by
  have ht : transpose S1x16x2048x64 [1, 2, 0, 3] (tokens R) transposes_S2048x1x16x64_S1x16x2048x64_1_2_0_3 = e4 R :=
    ext4 fun a h t e => by pointwise; rfl
  rw [out_term, hq, hr, ht, spread_one _ hg, spread_zero _ hb, hat_emb, mul4, add4, add4]
  refine ext3 fun a i t => ?_
  pointwise
  rfl
end

end Cert.Memory

end
-- ==== Proof.Loop.lean ====
/- The reference's loop over the tokens: what it carries after each trip. -/
module

public import proofs.«01_k».proof.Proof.Ref
public import Idealize.ShloMosaic.Lib.WordCmp
public import Idealize.ShloMosaic.Lib.WordArith.Masks

@[expose] public section

noncomputable section

namespace Cert.Memory
open Idealize.ShloMosaic Idealize.ShloMosaic.TcCoe Cert.ReferenceIdeal Cert.ReferenceIdeal.Gen Cert.ReferenceIdeal.Value
open scoped BigOperators

theorem iv_int (k : ℕ) (hk : k < 2048) : (Scf.iv 0#32 1#32 k).toInt = (k : ℤ) := by
  have h := WordArith.toNat_iv_zero_one k (by omega)
  rw [BitVec.toInt_eq_toNat_of_lt (by rw [h]; omega), h]

/-- The starts of a token's row. -/
def at4 (k : ℕ) : Fin S2048x1x16x64.rank → ℕ := ![k, 0, 0, 0]
def at3 (k : ℕ) : Fin S2048x1x16.rank → ℕ := ![k, 0, 0]

/-- The row lies within the array. -/
theorem fits4 (k : ℕ) (hk : k < 2048) : S2048x1x16x64.Slices (at4 k) S1x1x16x64 :=
  ⟨rfl, fun a => by match a with
    | ⟨0, _⟩ => show k + 1 ≤ 2048; omega
    | ⟨1, _⟩ => show 0 + 1 ≤ 1; omega
    | ⟨2, _⟩ => show 0 + 16 ≤ 16; omega
    | ⟨3, _⟩ => show 0 + 64 ≤ 64; omega⟩
theorem fits3 (k : ℕ) (hk : k < 2048) : S2048x1x16.Slices (at3 k) S1x1x16 :=
  ⟨rfl, fun a => by match a with
    | ⟨0, _⟩ => show k + 1 ≤ 2048; omega
    | ⟨1, _⟩ => show 0 + 1 ≤ 1; omega
    | ⟨2, _⟩ => show 0 + 16 ≤ 16; omega⟩

/-- A token's row of a sequence. -/
theorem slice4 (X : Seqs) (k : ℕ) (hk : k < 2048) (start : Fin S2048x1x16x64.rank → ℤ) (h) (hs : ∀ a, start a = (at4 k a : ℤ)) :
    Host.dynamicSlice S1x1x16x64 (tokens X) start h = emb4 fun (_ _ : Fin 1) h e => X h ⟨k, hk⟩ e := by
  rw [WordCmp.dynamicSlice_eq_extract S1x1x16x64 _ _ _ (at4 k) (fits4 k hk) hs]
  refine ext4 fun a b h e => ?_
  pointwise
  exact congrArg (fun p : Fin 16 × Fin 64 => ((X p.1 ⟨k, hk⟩ p.2 : ℝ) : EReal))
    (congrArg₂ Prod.mk (Fin.ext (Nat.zero_add h.val)) (Fin.ext (Nat.zero_add e.val)))

/-- A token's entry of a number per head and token. -/
theorem slice3 (G : Gates) (k : ℕ) (hk : k < 2048) (start : Fin S2048x1x16.rank → ℤ) (h) (hs : ∀ a, start a = (at3 k a : ℤ)) :
    Host.dynamicSlice S1x1x16 (ticks G) start h = emb3 fun (_ _ : Fin 1) h => G h ⟨k, hk⟩ := by
  rw [WordCmp.dynamicSlice_eq_extract S1x1x16 _ _ _ (at3 k) (fits3 k hk) hs]
  refine ext3 fun a b h => ?_
  pointwise
  exact congrArg (fun p : Fin 16 => ((G p ⟨k, hk⟩ : ℝ) : EReal)) (Fin.ext (Nat.zero_add h.val))

section
variable (V : Valuation τ sig (Elt Ideal)) (Q K D : Seqs) (G E : Gates) (S : Mats) (k : ℕ) (hk : k < 2048)
  (h0 : V (Proc.devRef .tc main_v55_0) = tokens Q) (h1 : V (Proc.devRef .tc main_v55_1) = tokens K)
  (h2 : V (Proc.devRef .tc main_v55_2) = tokens D) (h3 : V (Proc.devRef .tc main_v55_3) = ticks G)
  (h4 : V (Proc.devRef .tc main_v55_4) = ticks E) (h5 : V (Proc.devRef .tc main_v55_5) = fun _ => Scf.iv 0#32 1#32 k)
  (h6 : V (Proc.devRef .tc main_v55_6) = emb4 fun _ : Fin 1 => S)
include hk h1 h2 h3 h4 h5 h6

/-- The matrices after a trip. -/
theorem trip_state : res_main_while0b_v99 V
    = emb4 fun (_ : Fin 1) h d e => G h ⟨k, hk⟩ * S h d e + (-E h ⟨k, hk⟩) * (K h ⟨k, hk⟩ d * D h ⟨k, hk⟩ e) := by
  unfold res_main_while0b_v99
  have s4 : ∀ a : Fin S2048x1x16x64.rank, (((![fun _ => Scf.iv 0#32 1#32 k, constantI S_ 32 0#32, constantI S_ 32 0#32, constantI S_ 32 0#32] : Fin 4 → (⟨S_, .i32⟩ : BufTy).Contents (Elt Ideal))) a (Shape.Idx.first h_S_)).toInt = (at4 k a : ℤ) :=
    fun a => by match a with
      | ⟨0, _⟩ => exact iv_int k hk
      | ⟨1, _⟩ => rfl
      | ⟨2, _⟩ => rfl
      | ⟨3, _⟩ => rfl
  have s3 : ∀ a : Fin S2048x1x16.rank, (((![fun _ => Scf.iv 0#32 1#32 k, constantI S_ 32 0#32, constantI S_ 32 0#32] : Fin 3 → (⟨S_, .i32⟩ : BufTy).Contents (Elt Ideal))) a (Shape.Idx.first h_S_)).toInt = (at3 k a : ℤ) :=
    fun a => by match a with
      | ⟨0, _⟩ => exact iv_int k hk
      | ⟨1, _⟩ => rfl
      | ⟨2, _⟩ => rfl
  rw [h1, h2, h3, h4, h5, h6, slice4 K k hk, slice4 D k hk, slice3 G k hk, slice3 E k hk]
  rotate_left
  · exact s3
  · exact s3
  · exact s4
  · exact s4
  refine ext4 fun a h d e => ?_
  pointwise
  simp only [emb3_ix, emb4_ix, EReal.coe_add, EReal.coe_mul, EReal.coe_neg]

include h0
/-- The read-outs after a trip: the trip's row filled in. -/
theorem trip_rows (R : Seqs) (T : Mats) (h7 : V (Proc.devRef .tc main_v55_7) = tokens R)
    (hT : res_main_while0b_v99 V = emb4 fun _ : Fin 1 => T) :
    step_main_v55_7 V = tokens fun h t e => if t.val = k then ∑ d : Fin 64, Q h t d * T h d e else R h t e := by
  have s4 : ∀ a : Fin S2048x1x16x64.rank, (((![fun _ => Scf.iv 0#32 1#32 k, constantI S_ 32 0#32, constantI S_ 32 0#32, constantI S_ 32 0#32] : Fin 4 → (⟨S_, .i32⟩ : BufTy).Contents (Elt Ideal))) a (Shape.Idx.first h_S_)).toInt = (at4 k a : ℤ) :=
    fun a => by match a with
      | ⟨0, _⟩ => exact iv_int k hk
      | ⟨1, _⟩ => rfl
      | ⟨2, _⟩ => rfl
      | ⟨3, _⟩ => rfl
  unfold step_main_v55_7
  rw [hT, h0, h5, h7, slice4 Q k hk]
  rotate_left
  · exact s4
  rw [id, WordCmp.dynamicUpdateSlice_eq_update _ _ _ _ (at4 k) (fits4 k hk)]
  rotate_left
  · exact s4
  refine ext4 fun t b h e => ?_
  pointwise
  have he := e.isLt
  by_cases ht : t.val = k
  · subst ht
    rw [dif_pos ⟨⟨le_refl _, Nat.lt_succ_self _⟩, ⟨le_refl _, Nat.lt_succ_self _⟩, Nat.zero_le _, Nat.zero_le _⟩, if_pos rfl, ← coe_sum]
    refine Finset.sum_congr rfl fun d _ => ?_
    rw [EReal.coe_mul]
    rfl
  · rw [dif_neg fun hh => ht (le_antisymm (Nat.lt_succ_iff.1 hh.1.2) hh.1.1), if_neg ht]
    rfl
end

end Cert.Memory

end
-- ==== Proof.RefRun.lean ====
/- The reference's run: what its result and its arguments hold at the end. -/
module

public import proofs.«01_k».proof.Proof.Loop

@[expose] public section

noncomputable section

namespace Cert.Memory
open Idealize.ShloMosaic Idealize.ShloMosaic.TcCoe Cert.ReferenceIdeal Cert.ReferenceIdeal.Gen Cert.ReferenceIdeal.Value
open Idealize.ShloMosaic.StableHlo
open scoped BigOperators

/-- Every buffer the loop writes. -/
abbrev loopW : List (Ref sig .tc) := condOps_W ++ while0Ops0_W ++ while0Ops0_1_W ++ while0Ops0_2_W ++ while0Ops0_3_W ++ while0Ops0_4_W
  ++ while0Ops0_5_W ++ while0Ops0_6_W ++ while0Ops0_7_W

/-- A trip leaves every other buffer alone. -/
theorem trip_keep (X : Valuation τ sig (Elt Ideal)) (r : Ref sig .tc) (h : r ∉ loopW) :
    afterL bodyI (after condOps X) (Proc.devRef .tc r) = X (Proc.devRef .tc r) := by
  simp only [loopW, List.mem_append, not_or] at h
  obtain ⟨⟨⟨⟨⟨⟨⟨⟨hc, h0⟩, h1⟩, h2⟩, h3⟩, h4⟩, h5⟩, h6⟩, h7⟩ := h
  refine (after_of_writes_sub while0Ops0_7 _ while0Ops0_7_writes h7).trans ?_
  refine (after_of_writes_sub while0Ops0_6 _ while0Ops0_6_writes h6).trans ?_
  refine (after_of_writes_sub while0Ops0_5 _ while0Ops0_5_writes h5).trans ?_
  refine (after_of_writes_sub while0Ops0_4 _ while0Ops0_4_writes h4).trans ?_
  refine (after_of_writes_sub while0Ops0_3 _ while0Ops0_3_writes h3).trans ?_
  refine (after_of_writes_sub while0Ops0_2 _ while0Ops0_2_writes h2).trans ?_
  refine (after_of_writes_sub while0Ops0_1 _ while0Ops0_1_writes h1).trans ?_
  refine (after_of_writes_sub while0Ops0 _ while0Ops0_writes h0).trans ?_
  exact after_of_writes_sub condOps _ condOps_writes hc

variable (m : (ℓ : Loc nD τ sig) → Buf (Elt Ideal) ℓ) (c : Dev nD)

/-- The loop, and the test that ends it, leave every other buffer alone. -/
theorem loop_keep (r : Ref sig .tc) (h : r ∉ loopW) (n : ℕ) :
    after condOps (atK m n c) (Proc.devRef .tc r) = entryContents preI m c (Proc.devRef .tc r) := by
  have hc : r ∉ condOps_W := fun hh => h (by simp only [loopW, List.append_assoc]; exact List.mem_append_left _ hh)
  refine (after_of_writes_sub condOps _ condOps_writes hc).trans ?_
  induction n with
  | zero => rfl
  | succ n ih => exact (trip_keep _ r h).trans ih

/-- The arguments. -/
abbrev argW : List (Ref sig .tc) := [main_arg0, main_arg1, main_arg2, main_arg3, main_arg4, main_arg5, main_arg6, main_arg7]

/-- No operation writes an argument. -/
theorem arg_keep (r : Ref sig .tc) (h : r ∈ argW) :
    finalContents condOps preI bodyI postI 2048 m c (Proc.devRef .tc r) = m ((c.tc : Thread nD τ).loc r) := by
  have key : ∀ r, r ∉ loopW → r ∉ hostOps0_W → (∀ V : Valuation τ sig (Elt Ideal), after hostOps0_1 V (Proc.devRef .tc r) = V (Proc.devRef .tc r)) →
      finalContents condOps preI bodyI postI 2048 m c (Proc.devRef .tc r) = m ((c.tc : Thread nD τ).loc r) := fun r h1 h0 h2 =>
    (h2 _).trans ((loop_keep m c r h1 2048).trans (after_of_writes_sub hostOps0 _ hostOps0_writes h0))
  simp only [argW, List.mem_cons, List.not_mem_nil, or_false] at h
  rcases h with rfl | rfl | rfl | rfl | rfl | rfl | rfl | rfl
  all_goals exact key _ (by decide) (by decide) fun V => by after_reads_simp

/-- A scale of one, with a leading axis of one, is one; a shift of zero is zero. -/
theorem one_lift (g : FVec Ideal S16x1x64 .f32) (h : ∀ i, g i = ((1 : ℝ) : EReal)) : OneP (lift1 g) := fun a e => by
  unfold lift1
  pointwise
  exact h _
theorem zero_lift (g : FVec Ideal S16x1x64 .f32) (h : ∀ i, g i = ((0 : ℝ) : EReal)) : ZeroP (lift1 g) := fun a e => by
  unfold lift1
  pointwise
  exact h _

/-- The arguments hold finite numbers, and the layer norm's scale and shift are one and zero. -/
structure RHolds (Q K U : Seqs) (G E : Gates) (W : Mats) : Prop where
  q : m ((c.tc : Thread nD τ).loc main_arg0) = e4 Q
  k : m ((c.tc : Thread nD τ).loc main_arg1) = e4 K
  v : m ((c.tc : Thread nD τ).loc main_arg2) = e4 U
  g : m ((c.tc : Thread nD τ).loc main_arg3) = emb3 fun _ : Fin 1 => G
  e : m ((c.tc : Thread nD τ).loc main_arg4) = emb3 fun _ : Fin 1 => E
  w : m ((c.tc : Thread nD τ).loc main_arg5) = emb3 W
  one : OneP (lift1 (m ((c.tc : Thread nD τ).loc main_arg6)))
  zero : ZeroP (lift1 (m ((c.tc : Thread nD τ).loc main_arg7)))

variable (Q K U : Seqs) (G E : Gates) (W : Mats) (H : RHolds m c Q K U G E W)
include H

/-- What the loop carries before each trip. -/
theorem carried_at (k : ℕ) (hk : k ≤ 2048) :
    (STEP^[k] (entryContents preI m c)) (Proc.devRef .tc main_v55_0) = tokens Q
    ∧ (STEP^[k] (entryContents preI m c)) (Proc.devRef .tc main_v55_1) = tokens K
    ∧ (STEP^[k] (entryContents preI m c)) (Proc.devRef .tc main_v55_2) = tokens (grad K U W)
    ∧ (STEP^[k] (entryContents preI m c)) (Proc.devRef .tc main_v55_3) = ticks G
    ∧ (STEP^[k] (entryContents preI m c)) (Proc.devRef .tc main_v55_4) = ticks E
    ∧ (STEP^[k] (entryContents preI m c)) (Proc.devRef .tc main_v55_6) = emb4 (fun _ : Fin 1 => state K U G E W k)
    ∧ (STEP^[k] (entryContents preI m c)) (Proc.devRef .tc main_v55_7)
        = tokens fun h t e => if t.val < k then readout Q K U G E W h t e else 0 := by
  induction k with
  | zero =>
    refine ⟨in_0 _ Q H.q, in_1 _ K H.k, in_2 _ K U W H.k H.v H.w H.one H.zero, in_3 _ G H.g, in_4 _ E H.e, in_6 _ W H.w, ?_⟩
    refine (in_7 _).trans (congrArg tokens ?_)
    funext h t e
    exact (if_neg (Nat.not_lt_zero _)).symm
  | succ k ih =>
    obtain ⟨h0, h1, h2, h3, h4, h6, h7⟩ := ih (by omega)
    have h5 : (STEP^[k] (entryContents preI m c)) (Proc.devRef .tc main_v55_5) = fun _ => Scf.iv 0#32 1#32 k :=
      (atK_agree m c k main_v55_5 (by decide)).symm.trans (atK_ctr m c k)
    rw [Function.iterate_succ_apply']
    generalize STEP^[k] (entryContents preI m c) = X at *
    have hk' : k < 2048 := hk
    have htk : tk k = ⟨k, hk'⟩ := Fin.ext (Nat.mod_eq_of_lt hk')
    have hs : res_main_while0b_v99 X = emb4 fun _ : Fin 1 => state K U G E W (k + 1) := by
      rw [trip_state X K (grad K U W) G E (state K U G E W k) k hk' h1 h2 h3 h4 h5 h6, ← htk]
      rfl
    refine ⟨(STEP_main_v55_0 X).trans h0, (STEP_main_v55_1 X).trans h1, (STEP_main_v55_2 X).trans h2, (STEP_main_v55_3 X).trans h3,
      (STEP_main_v55_4 X).trans h4, (STEP_main_v55_6 X).trans hs, (STEP_main_v55_7 X).trans ?_⟩
    rw [trip_rows X Q K (grad K U W) G E (state K U G E W k) k hk' h0 h1 h2 h3 h4 h5 h6 _ _ h7 hs]
    refine congrArg tokens ?_
    funext h t e
    by_cases ht : t.val = k
    · rw [if_pos ht, if_pos (by omega)]
      unfold readout
      rw [ht]
    · rw [if_neg ht]
      by_cases hlt : t.val < k
      · rw [if_pos hlt, if_pos (by omega)]
      · rw [if_neg hlt, if_neg (by omega)]

/-- The reference's result. -/
theorem result_at : finalContents condOps preI bodyI postI 2048 m c (Proc.devRef .tc main_v81)
    = emb3 fun (_ : Fin 1) i t => outS Q K U G E W (hd i) t (ln i) := by
  have h7 : after condOps (atK m 2048 c) (Proc.devRef .tc main_v55_7) = tokens (readout Q K U G E W) := by
    refine (cond_keeps (atK m 2048 c) main_v55_7 (by decide)).trans ?_
    refine (atK_agree m c 2048 main_v55_7 (by decide)).trans ?_
    refine (carried_at m c Q K U G E W H 2048 le_rfl).2.2.2.2.2.2.trans (congrArg tokens ?_)
    funext h t e
    exact if_pos t.isLt
  have hq : after condOps (atK m 2048 c) (Proc.devRef .tc main_arg0) = e4 Q :=
    (loop_keep m c main_arg0 (by decide) 2048).trans ((after_of_writes_sub hostOps0 _ hostOps0_writes (by decide)).trans H.q)
  have hg : OneP (after condOps (atK m 2048 c) (Proc.devRef .tc main_v0)) := by
    rw [loop_keep m c main_v0 (by decide) 2048]
    show OneP (after hostOps0 (launchContents m c) (Proc.devRef .tc main_v0))
    rw [in_v0]
    exact H.one
  have hb : ZeroP (after condOps (atK m 2048 c) (Proc.devRef .tc main_v1)) := by
    rw [loop_keep m c main_v1 (by decide) 2048]
    show ZeroP (after hostOps0 (launchContents m c) (Proc.devRef .tc main_v1))
    rw [in_v1]
    exact H.zero
  exact out_81 _ Q _ hq h7 hg hb

end Cert.Memory

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Range
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem Cert.Memory

/-- The reference's result and its arguments at the end of its run. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => ∀ c : Dev ReferenceIdeal.nD,
        r.2.mem ((c.tc : Thread ReferenceIdeal.nD ReferenceIdeal.τ).loc ReferenceIdeal.main_v81)
            = finalContents ReferenceIdeal.Value.condOps ReferenceIdeal.Value.preI ReferenceIdeal.Value.bodyI
                ReferenceIdeal.Value.postI 2048 m c (Proc.devRef .tc ReferenceIdeal.main_v81)
        ∧ ∀ b ∈ argW, r.2.mem ((c.tc : Thread ReferenceIdeal.nD ReferenceIdeal.τ).loc b)
            = m ((c.tc : Thread ReferenceIdeal.nD ReferenceIdeal.τ).loc b)) :=
  (θ_run _ _ _).mono (fun r h c => ⟨h c _ rfl, fun b hb =>
    (h c b (by fin_cases hb <;> rfl)).trans (arg_keep m c b hb)⟩) (ReferenceIdeal.Value.run_fold m g)

/-- The reference runs, and leaves its arguments and the counters alone. -/
theorem reference_frame : Cert.quiescent_ReferenceIdeal (hReferenceIdeal := Cert.ReferenceIdeal.Gen.facts) := fun m g _ =>
  (θ_run _ _ _).mono (fun r h => ⟨fun c =>
    ⟨(h c).2 _ (by decide), (h c).2 _ (by decide), (h c).2 _ (by decide), (h c).2 _ (by decide), (h c).2 _ (by decide),
      (h c).2 _ (by decide), (h c).2 _ (by decide), (h c).2 _ (by decide)⟩,
    sem_eq_zero_of_no_sems (by decide) r.2⟩) (reference_run m g)

/-- The kernel's array, where the arguments are in range: at every token the layer norm of what the state says of the query, plus
    the query. -/
theorem kernel_array (m : (ℓ : Loc KernelIdeal.nD KernelIdeal.τ KernelIdeal.sig) → Buf (Elt Ideal) ℓ) (c : Dev KernelIdeal.nD)
    (Q K U : Seqs) (G E : Gates) (W : Mats) (H : Holds m c Q K U G E W)
    (hG : ∀ h t, (2 : ℝ) ^ (-126 : ℤ) ≤ G h t) (hE : ∀ h t, (2 : ℝ) ^ (-126 : ℤ) ≤ E h t) :
    KernelIdeal.Value.G11 m c = emb3 fun (_ : Fin 1) i t => outS Q K U G E W (hd i) t (ln i) := by
  rw [G11_eq m c Q K U G E W H (fun h t => exp_le_tiny.trans (hG h t)) (fun h t => exp_le_tiny.trans (hE h t))]
  refine congrArg emb3 ?_
  funext _ i t
  have hn : t.val / 128 < 16 := by have := t.isLt; omega
  rw [outChunk_eq Q K U G E W (fun h t => tiny_pos.trans_le (hG h t)) (fun h t => tiny_pos.trans_le (hE h t)) _ hn]
  have ht : tok (ch (t.val / 128)) ⟨t.val % 128, Nat.mod_lt _ (by norm_num)⟩ = t := by
    apply Fin.ext
    show t.val / 128 % 16 * 128 + t.val % 128 = t.val
    omega
  rw [ht]

/-- In range, the kernel and the reference end with equal results. -/
theorem same_result : Cert.algebraic_KernelIdeal_ReferenceIdeal_pre_in_range (hKernelIdeal := Cert.KernelIdeal.Gen.facts)
    (hReferenceIdeal := Cert.ReferenceIdeal.Gen.facts) (hPre_in_range := range_facts) := by
  haveI := range_facts
  intro m g m' g' hpre hargs
  refine ⟨fun c => KernelIdeal.Value.G11 m c,
    KernelIdeal.Value.run m g, (θ_run _ _ _).mono (fun r h c =>
    ⟨(h c).1.trans ?_, (h c).2 _ (by decide), (h c).2 _ (by decide), (h c).2 _ (by decide), (h c).2 _ (by decide), (h c).2 _ (by decide),
      (h c).2 _ (by decide), (h c).2 _ (by decide), (h c).2 _ (by decide)⟩) (reference_run m' g')⟩
  obtain ⟨e0, e1, e2, e3, e4, e5, e6, e7⟩ := hargs c
  obtain ⟨s0, s1, s2⟩ := seqs_in_range _ _ _ _ _ _ _ _ (hpre c)
  obtain ⟨s3, s4⟩ := gates_in_range _ _ _ _ _ _ _ _ (hpre c)
  obtain ⟨s5, s6, s7⟩ := rest_in_range _ _ _ _ _ _ _ _ (hpre c)
  have H : Holds m c _ _ _ _ _ _ := ⟨seq_holds _ s0, seq_holds _ s1, seq_holds _ s2, (gate_holds _ s3).1, (gate_holds _ s4).1, mat_holds _ s5⟩
  have H' : RHolds m' c _ _ _ _ _ _ := ⟨e0.trans (seq_holds _ s0), e1.trans (seq_holds _ s1), e2.trans (seq_holds _ s2),
    e3.trans (gate_holds _ s3).1, e4.trans (gate_holds _ s4).1, e5.trans (mat_holds _ s5),
    one_lift _ fun i => (congrFun e6 i).trans (s6 i), zero_lift _ fun i => (congrFun e7 i).trans (s7 i)⟩
  exact (result_at m' c _ _ _ _ _ _ H').trans (kernel_array m c _ _ _ _ _ _ H (gate_holds _ s3).2 (gate_holds _ s4).2).symm

theorem claim : Cert.Claim := by
  refine ⟨Cert.Kernel.Gen.facts, Cert.KernelIdeal.Gen.facts, Cert.ReferenceIdeal.Gen.facts, range_facts, ?_, ?_, ?_, ?_, ?_, ?_, ?_⟩
  · exact fun m g _ => Cert.Kernel.Gen.frame m g
  · exact fun m g _ => Cert.KernelIdeal.Gen.frame m g
  · exact fun m g _ => Cert.KernelIdeal.Gen.frame m g
  · exact reference_frame
  · exact fun m g _ => reference_frame m g trivial
  · exact trivial
  · exact same_result

end Cert.Proof

end
